-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_widths_ok [hPre_widths_ok : Cert.Pre_widths_ok.Facts] (m : (ℓ : Loc Cert.KernelIdeal.nD Cert.KernelIdeal.τ Cert.KernelIdeal.sig) → Buf (Elt Ideal) ℓ) : Prop :=
  ∀ c : Dev Cert.KernelIdeal.nD,
    (Cert.Pre_widths_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_widths_ok [hPre_widths_ok : Cert.Pre_widths_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_widths_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_widths_ok [hKernelIdeal : Cert.KernelIdeal.Facts] [hPre_widths_ok : Cert.Pre_widths_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_widths_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_widths_ok [hReferenceIdeal : Cert.ReferenceIdeal.Facts] [hPre_widths_ok : Cert.Pre_widths_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_widths_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.named_const.Statement Cert.KernelIdeal.κ "far" .f32 0x4E6E6B28#32 ⊤

def algebraic_KernelIdeal_ReferenceIdeal_pre_widths_ok [hKernelIdeal : Cert.KernelIdeal.Facts] [hReferenceIdeal : Cert.ReferenceIdeal.Facts] [hPre_widths_ok : Cert.Pre_widths_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_widths_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v43)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v43) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v53) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_widths_ok : Cert.Pre_widths_ok.Facts),
    quiescent_Kernel (hKernel := hKernel)
    ∧ quiescent_KernelIdeal (hKernelIdeal := hKernelIdeal)
    ∧ quiescent_KernelIdeal_pre_widths_ok (hKernelIdeal := hKernelIdeal) (hPre_widths_ok := hPre_widths_ok)
    ∧ quiescent_ReferenceIdeal (hReferenceIdeal := hReferenceIdeal)
    ∧ quiescent_ReferenceIdeal_pre_widths_ok (hReferenceIdeal := hReferenceIdeal) (hPre_widths_ok := hPre_widths_ok)
    ∧ preserves_Kernel_KernelIdeal
    ∧ algebraic_KernelIdeal_ReferenceIdeal_pre_widths_ok (hKernelIdeal := hKernelIdeal) (hReferenceIdeal := hReferenceIdeal) (hPre_widths_ok := hPre_widths_ok)
-- ==== Pre_widths_ok.lean ====
abbrev S1000000x6 : Shape := ⟨2, ![1000000, 6]⟩
abbrev S33 : Shape := ⟨1, ![33]⟩
abbrev S1 : Shape := ⟨1, ![1]⟩
abbrev S_ : Shape := ⟨0, ![]⟩

class Facts : Prop where
  slices_S33_S1_1 : S33.Slices ![1] S1
  shapeCasts_S1_S_ : S1.ShapeCasts S_
  slices_S33_S1_0 : S33.Slices ![0] S1

variable [Facts]

def fn {F : FTy → Type} [FloatOps F] (main_arg0 : FVec F S1000000x6 .f32) (main_arg1 : FVec F S33 .f32) (main_arg2 : FVec F S33 .f32) : IVec S_ 1 :=
  let main_v0 : FVec F S1 .f32 := (extractStridedSlice S1 ![1] · slices_S33_S1_1) main_arg1
  let main_v1 : FVec F S_ .f32 := shapeCast S_ main_v0 shapeCasts_S1_S_
  let main_v2 : FVec F S1 .f32 := (extractStridedSlice S1 ![0] · slices_S33_S1_0) main_arg1
  let main_v3 : FVec F S_ .f32 := shapeCast S_ main_v2 shapeCasts_S1_S_
  let main_v4 : FVec F S_ .f32 := subf main_v1 main_v3
  let main_v5 : FVec F S1 .f32 := (extractStridedSlice S1 ![1] · slices_S33_S1_1) main_arg2
  let main_v6 : FVec F S_ .f32 := shapeCast S_ main_v5 shapeCasts_S1_S_
  let main_v7 : FVec F S1 .f32 := (extractStridedSlice S1 ![0] · slices_S33_S1_0) main_arg2
  let main_v8 : FVec F S_ .f32 := shapeCast S_ main_v7 shapeCasts_S1_S_
  let main_v9 : FVec F S_ .f32 := subf main_v6 main_v8
  let main_cst : FVec F S_ .f32 := constant S_ .f32 0x00000000#32
  let main_v10 : IVec S_ 1 := cmpf .une main_v4 main_cst
  let main_cst_0 : FVec F S_ .f32 := constant S_ .f32 0x00000000#32
  let main_v11 : IVec S_ 1 := cmpf .une main_v9 main_cst_0
  let main_v12 : IVec S_ 1 := andi main_v10 main_v11
  let main_v13 : FVec F S_ .f32 := Host.absf main_v4
  let main_cst_1 : FVec F S_ .f32 := constant S_ .f32 0x7F800000#32
  let main_v14 : IVec S_ 1 := cmpf .olt main_v13 main_cst_1
  let main_v15 : FVec F S_ .f32 := Host.absf main_v9
  let main_cst_2 : FVec F S_ .f32 := constant S_ .f32 0x7F800000#32
  let main_v16 : IVec S_ 1 := cmpf .olt main_v15 main_cst_2
  let main_v17 : IVec S_ 1 := ori main_v14 main_v16
  let main_v18 : IVec S_ 1 := andi main_v12 main_v17
  main_v18
-- ==== Kernel.lean ====
abbrev S1000000x6 : Shape := ⟨2, ![1000000, 6]⟩
abbrev S33 : Shape := ⟨1, ![33]⟩
abbrev S1000000x2 : Shape := ⟨2, ![1000000, 2]⟩
abbrev S2x1000000 : Shape := ⟨2, ![2, 1000000]⟩
abbrev S32 : Shape := ⟨1, ![32]⟩
abbrev S_ : Shape := ⟨0, ![]⟩
abbrev S1 : Shape := ⟨1, ![1]⟩
abbrev S2 : Shape := ⟨1, ![2]⟩
abbrev S2x1 : Shape := ⟨2, ![2, 1]⟩
abbrev S32x1 : Shape := ⟨2, ![32, 1]⟩
abbrev S32x32 : Shape := ⟨2, ![32, 32]⟩
abbrev S2x32768 : Shape := ⟨2, ![2, 32768]⟩
abbrev S1x32768 : Shape := ⟨2, ![1, 32768]⟩
abbrev S1x1 : Shape := ⟨2, ![1, 1]⟩
abbrev S32x32768 : Shape := ⟨2, ![32, 32768]⟩
abbrev S1x32x32 : Shape := ⟨3, ![1, 32, 32]⟩
abbrev S1x1x1 : Shape := ⟨3, ![1, 1, 1]⟩

abbrev nBuf : Space → Nat
  | .hbm => 52
  | .vmem => 7
  | .smem => 0
  | _ => 0

abbrev bufTy : (tb : Table) → Fin (tcTables nBuf tb) → BufTy
  | .hbm, ⟨0, _⟩ => ⟨S1000000x6, .f32⟩
  | .hbm, ⟨1, _⟩ => ⟨S33, .f32⟩
  | .hbm, ⟨2, _⟩ => ⟨S33, .f32⟩
  | .hbm, ⟨3, _⟩ => ⟨S1000000x2, .f32⟩
  | .hbm, ⟨4, _⟩ => ⟨S2x1000000, .f32⟩
  | .hbm, ⟨5, _⟩ => ⟨S32, .f32⟩
  | .hbm, ⟨6, _⟩ => ⟨S32, .f32⟩
  | .hbm, ⟨7, _⟩ => ⟨S32, .f32⟩
  | .hbm, ⟨8, _⟩ => ⟨S_, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S32, .f32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S_, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S1, .f32⟩
  | .hbm, ⟨28, _⟩ => ⟨S_, .f32⟩
  | .hbm, ⟨29, _⟩ => ⟨S1, .f32⟩
  | .hbm, ⟨30, _⟩ => ⟨S_, .f32⟩
  | .hbm, ⟨31, _⟩ => ⟨S_, .f32⟩
  | .hbm, ⟨32, _⟩ => ⟨S_, .f32⟩
  | .hbm, ⟨33, _⟩ => ⟨S_, .f32⟩
  | .hbm, ⟨34, _⟩ => ⟨S1, .f32⟩
  | .hbm, ⟨35, _⟩ => ⟨S_, .f32⟩
  | .hbm, ⟨36, _⟩ => ⟨S1, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1, .f32⟩
  | .hbm, ⟨42, _⟩ => ⟨S1, .f32⟩
  | .hbm, ⟨43, _⟩ => ⟨S2, .f32⟩
  | .hbm, ⟨44, _⟩ => ⟨S2x1, .f32⟩
  | .hbm, ⟨45, _⟩ => ⟨S32, .f32⟩
  | .hbm, ⟨46, _⟩ => ⟨S32, .f32⟩
  | .hbm, ⟨47, _⟩ => ⟨S32x1, .f32⟩
  | .hbm, ⟨48, _⟩ => ⟨S32, .f32⟩
  | .hbm, ⟨49, _⟩ => ⟨S32, .f32⟩
  | .hbm, ⟨50, _⟩ => ⟨S32x1, .f32⟩
  | .hbm, ⟨51, _⟩ => ⟨S32x32, .f32⟩
  | .local _ .vmem, ⟨0, _⟩ => ⟨S2x32768, .f32⟩
  | .local _ .vmem, ⟨1, _⟩ => ⟨S2x32768, .f32⟩
  | .local _ .vmem, ⟨2, _⟩ => ⟨S2x1, .f32⟩
  | .local _ .vmem, ⟨3, _⟩ => ⟨S32x1, .f32⟩
  | .local _ .vmem, ⟨4, _⟩ => ⟨S32x1, .f32⟩
  | .local _ .vmem, ⟨5, _⟩ => ⟨S32x32, .f32⟩
  | .local _ .vmem, ⟨6, _⟩ => ⟨S32x32, .f32⟩
  | _, _ => ⟨S1000000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_cst_2 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5

abbrev nD : Nat := 1
abbrev τ : Topo := Topo.v7x

variable {F : FTy → Type} [FloatOps F]

abbrev grid0 : Pipeline.Grid := ⟨1, ![31], ![false]⟩

def k0_cond2 (i : grid0.Coords) : BitVec 1 :=
  let arg0 : BitVec 32 := BitVec.ofNat 32 (i 0).val
  let c30_i32 : BitVec 32 := 30#32
  let v49 : BitVec 1 := Scalar.cmpi .eq arg0 c30_i32
  let v50 : BitVec 32 := Scalar.extui v49
  let c0_i32_19 : BitVec 32 := 0#32
  let v51 : BitVec 1 := Scalar.cmpi .ne v50 c0_i32_19
  v51

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S32x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]
-- ==== KernelIdeal.lean ====
variable {F : FTy → Type} [FloatOps F] [Named F]
def κ : String → Option EReal := fun
  | "far" => some ⊤
  | _ => none
-- ==== ReferenceIdeal.lean ====
abbrev S1000000x6 : Shape := ⟨2, ![1000000, 6]⟩
abbrev S33 : Shape := ⟨1, ![33]⟩
abbrev S32 : Shape := ⟨1, ![32]⟩
abbrev S_ : Shape := ⟨0, ![]⟩
abbrev S1 : Shape := ⟨1, ![1]⟩
abbrev S1000000x1 : Shape := ⟨2, ![1000000, 1]⟩
abbrev S1000000 : Shape := ⟨1, ![1000000]⟩
abbrev S1x32 : Shape := ⟨2, ![1, 32]⟩
abbrev S1000000x32 : Shape := ⟨2, ![1000000, 32]⟩
abbrev S32x1000000 : Shape := ⟨2, ![32, 1000000]⟩
abbrev S32x32 : Shape := ⟨2, ![32, 32]⟩

abbrev nBuf : Space → Nat
  | .hbm => 65
  | .vmem => 0
  | .smem => 0
  | _ => 0

abbrev bufTy : (tb : Table) → Fin (tcTables nBuf tb) → BufTy
  | .hbm, ⟨0, _⟩ => ⟨S1000000x6, .f32⟩
  | .hbm, ⟨1, _⟩ => ⟨S33, .f32⟩
  | .hbm, ⟨2, _⟩ => ⟨S33, .f32⟩
  | .hbm, ⟨3, _⟩ => ⟨S32, .f32⟩
  | .hbm, ⟨4, _⟩ => ⟨S32, .f32⟩
  | .hbm, ⟨5, _⟩ => ⟨S32, .f32⟩
  | .hbm, ⟨6, _⟩ => ⟨S_, .f32⟩
  | .hbm, ⟨7, _⟩ => ⟨S32, .f32⟩
  | .hbm, ⟨8, _⟩ => ⟨S32, .f32⟩
  | .hbm, ⟨9, _⟩ => ⟨S32, .f32⟩
  | .hbm, ⟨10, _⟩ => ⟨S32, .f32⟩
  | .hbm, ⟨11, _⟩ => ⟨S32, .f32⟩
  | .hbm, ⟨12, _⟩ => ⟨S_, .f32⟩
  | .hbm, ⟨13, _⟩ => ⟨S32, .f32⟩
  | .hbm, ⟨14, _⟩ => ⟨S32, .f32⟩
  | .hbm, ⟨15, _⟩ => ⟨S1, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S_, .f32⟩
  | .hbm, ⟨20, _⟩ => ⟨S1, .f32⟩
  | .hbm, ⟨21, _⟩ => ⟨S_, .f32⟩
  | .hbm, ⟨22, _⟩ => ⟨S1, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S1000000x1, .f32⟩
  | .hbm, ⟨30, _⟩ => ⟨S1000000, .f32⟩
  | .hbm, ⟨31, _⟩ => ⟨S1000000x1, .f32⟩
  | .hbm, ⟨32, _⟩ => ⟨S1x32, .f32⟩
  | .hbm, ⟨33, _⟩ => ⟨S1000000x32, .f32⟩
  | .hbm, ⟨34, _⟩ => ⟨S1000000x32, .f32⟩
  | .hbm, ⟨35, _⟩ => ⟨S1000000x32, .f32⟩
  | .hbm, ⟨36, _⟩ => ⟨S1000000x32, .f32⟩
  | .hbm, ⟨37, _⟩ => ⟨S1000000x32, .f32⟩
  | .hbm, ⟨38, _⟩ => ⟨S1000000x32, .f32⟩
  | .hbm, ⟨39, _⟩ => ⟨S_, .f32⟩
  | .hbm, ⟨40, _⟩ => ⟨S1000000x32, .f32⟩
  | .hbm, ⟨41, _⟩ => ⟨S1000000x32, .f32⟩
  | .hbm, ⟨42, _⟩ => ⟨S1000000x32, .f32⟩
  | .hbm, ⟨43, _⟩ => ⟨S1000000x1, .f32⟩
  | .hbm, ⟨44, _⟩ => ⟨S1000000, .f32⟩
  | .hbm, ⟨45, _⟩ => ⟨S1000000x1, .f32⟩
  | .hbm, ⟨46, _⟩ => ⟨S1x32, .f32⟩
  | .hbm, ⟨47, _⟩ => ⟨S1000000x32, .f32⟩
  | .hbm, ⟨48, _⟩ => ⟨S1000000x32, .f32⟩
  | .hbm, ⟨49, _⟩ => ⟨S1000000x32, .f32⟩
  | .hbm, ⟨50, _⟩ => ⟨S1000000x32, .f32⟩
  | .hbm, ⟨51, _⟩ => ⟨S1000000x32, .f32⟩
  | .hbm, ⟨52, _⟩ => ⟨S1000000x32, .f32⟩
  | .hbm, ⟨53, _⟩ => ⟨S_, .f32⟩
  | .hbm, ⟨54, _⟩ => ⟨S1000000x32, .f32⟩
  | .hbm, ⟨55, _⟩ => ⟨S1000000x32, .f32⟩
  | .hbm, ⟨56, _⟩ => ⟨S1000000x32, .f32⟩
  | .hbm, ⟨57, _⟩ => ⟨S32x1000000, .f32⟩
  | .hbm, ⟨58, _⟩ => ⟨S32x32, .f32⟩
  | .hbm, ⟨59, _⟩ => ⟨S_, .f32⟩
  | .hbm, ⟨60, _⟩ => ⟨S_, .f32⟩
  | .hbm, ⟨61, _⟩ => ⟨S_, .f32⟩
  | .hbm, ⟨62, _⟩ => ⟨S_, .f32⟩
  | .hbm, ⟨63, _⟩ => ⟨S32x32, .f32⟩
  | .hbm, ⟨64, _⟩ => ⟨S32x32, .f32⟩
  | _, _ => ⟨S1000000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_cst_1 : Ref sig .tc := ⟨.hbm, 25, rfl⟩
abbrev main_v20 : Ref sig .tc := ⟨.hbm, 26, rfl⟩
abbrev main_cst_2 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_v30 : Ref sig .tc := ⟨.hbm, 37, rfl⟩
abbrev main_v31 : Ref sig .tc := ⟨.hbm, 38, rfl⟩
abbrev main_cst_3 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_cst_4 : Ref sig .tc := ⟨.hbm, 53, rfl⟩
abbrev main_v45 : Ref sig .tc := ⟨.hbm, 54, rfl⟩
abbrev main_v46 : Ref sig .tc := ⟨.hbm, 55, rfl⟩
abbrev main_v47 : Ref sig .tc := ⟨.hbm, 56, rfl⟩
abbrev main_v48 : Ref sig .tc := ⟨.hbm, 57, rfl⟩
abbrev main_v49 : Ref sig .tc := ⟨.hbm, 58, rfl⟩
abbrev main_cst_5 : Ref sig .tc := ⟨.hbm, 59, rfl⟩
abbrev main_v50 : Ref sig .tc := ⟨.hbm, 60, rfl⟩
abbrev main_cst_6 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩

abbrev nD : Nat := 1
abbrev τ : Topo := Topo.v7x

variable {F : FTy → Type} [FloatOps F]
-- ==== Proof.Kernel.Frame.lean ====
/-
  The run of the whole kernel (hand-written, untrusted): the accumulator after each grid point, the proof data that says
  so, the body's obligation at every point, and the run: the arguments end unchanged and the counters end at zero.
  The program is that of `KernelIdeal/` before its mask value is named; the text is that directory's.
-/
module

public import proofs.«01_k».proof.Proof.Kernel.Tail
public import Idealize.ShloMosaic.Lib.Pipeline.FrameValue
public import Idealize.ShloMosaic.Lib.Claim

@[expose] public section

set_option maxRecDepth 16384

noncomputable section

namespace Cert.Kernel.Run

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The accumulator, point by point -/

/-- The block of samples at point `t`, with zeros past the end of the array. -/
def samples (c : Dev nD) (t : Fin grid0.N) : Vec F S2x32768 .f32 :=
  win0_0.fill (grid0.coords t) (fun _ => Scalar.ofBits .f32 0x00000000#32) (iblk m c 0 t)

/-- The accumulator after the first `n` points (past the grid's end, as after its last point). -/
def acc (c : Dev nD) : ℕ → Vec F S32x32 .f32
  | 0 => k0_pay3
  | n + 1 => if h : n < grid0.N then
      accNext (grid0.coords ⟨n, h⟩) (samples m c ⟨n, h⟩) (iblk m c 1 ⟨n, h⟩) (iblk m c 2 ⟨n, h⟩) (iblk m c 3 ⟨n, h⟩) (acc c n)
    else acc c n

/-- One point further. -/
theorem acc_succ (c : Dev nD) (t : Fin grid0.N) :
    acc m c (t.val + 1)
      = accNext (grid0.coords t) (samples m c t) (iblk m c 1 t) (iblk m c 2 t) (iblk m c 3 t) (acc m c t.val) := by
  rw [acc, dif_pos t.isLt]

/-- At the first point it does not matter what the accumulator held: the body clears it. -/
theorem accNext_first (t : Fin grid0.N) (X : Vec F S2x32768 .f32) (q : Vec F S2x1 .f32) (cx cy : Vec F S32x1 .f32)
    (a b : Vec F S32x32 .f32) (h : t.val ≠ 0 → a = b) :
    accNext (grid0.coords t) X q cx cy a = accNext (grid0.coords t) X q cx cy b := by
  by_cases hz : t.val = 0
  · unfold accNext; rw [if_pos ((clears_iff t).mpr hz), if_pos ((clears_iff t).mpr hz)]
  · rw [h hz]

/-! ## The proof data -/

/-- The accumulator's buffer. -/
abbrev scM : Memref sig .tc .vmem S32x32 .f32 := Memref.whole cc0_scratch0

/-- Before point `n`: the accumulator's buffer holds `acc n` (at the first point, anything), and the generator's
    register some state. -/
def Phi (c : Dev nD) (n : ℕ) : sProp 𝕄 :=
  iprop((∃ a, ⌜n ≠ 0 → a = acc m c n⌝ ∗ owns (c : Thread nD τ) scM fullShare a) ∗ ∃ r, prngReg c r)

/-- The proof data: each input's buffer keeps its block, the result's buffer holds the normalised accumulator, and
    the accumulator is carried. -/
def dats (_ : Fin 1) (c : Dev nD) : Dat τ (Elt F) Unit ℕ (UR sig nD τ) ℕ cfg0 c where
  A w := V m c (Pipeline.arrRef spec0 w)
  after w t := match w with
    | ⟨0, _⟩ => samples m c t
    | ⟨1, _⟩ => iblk m c 1 t
    | ⟨2, _⟩ => iblk m c 2 t
    | ⟨3, _⟩ => iblk m c 3 t
    | ⟨4, _⟩ => k0_pay2 (acc m c (t.val + 1))
  Φ t := Phi m c t.val
  q _ := fullShare
  owed _ := 0

/-- The arrays at the call are what the host code before it leaves. -/
theorem A_eq (c : Dev nD) (w : Fin cfg0.W) : (dats m 0 c).A w = V m c (Pipeline.arrRef spec0 w) := by
  dsimp only [dats]

/-- The samples' buffer after a point. -/
theorem after0_0 (c : Dev nD) (t : Fin cfg0.N) : (dats m 0 c).after 0 t = samples m c t := by dsimp only [dats]
/-- The scales' buffer after a point. -/
theorem after0_1 (c : Dev nD) (t : Fin cfg0.N) : (dats m 0 c).after 1 t = iblk m c 1 t := by dsimp only [dats]
/-- The buffer of the first axis' centers after a point. -/
theorem after0_2 (c : Dev nD) (t : Fin cfg0.N) : (dats m 0 c).after 2 t = iblk m c 2 t := by dsimp only [dats]
/-- The buffer of the second axis' centers after a point. -/
theorem after0_3 (c : Dev nD) (t : Fin cfg0.N) : (dats m 0 c).after 3 t = iblk m c 3 t := by dsimp only [dats]
/-- The result's buffer after a point that stores. -/
theorem after0_4 (c : Dev nD) (t : Fin cfg0.N) : (dats m 0 c).after 4 t = k0_pay2 (acc m c (t.val + 1)) := by
  dsimp only [dats]

/-- The samples' buffer at every point: the block, over whatever was there. -/
theorem before0_0 (c : Dev nD) (t : Fin cfg0.N) (d) :
    (dats m 0 c).before 0 t d = win0_0.fill (grid0.coords t) d (iblk m c 0 t) := by
  unfold Dat.before; rw [if_pos (fetch0_0 t)]; rfl
/-- The scales' buffer before a point. -/
theorem before0_1 (c : Dev nD) (t : Fin cfg0.N) (d) : (dats m 0 c).before 1 t d = iblk m c 1 t :=
  before0_1_of m (dats m 0 c) (A_eq m c 1) (after0_1 m c) t d
/-- The buffer of the first axis' centers before a point. -/
theorem before0_2 (c : Dev nD) (t : Fin cfg0.N) (d) : (dats m 0 c).before 2 t d = iblk m c 2 t :=
  before0_2_of m (dats m 0 c) (A_eq m c 2) (after0_2 m c) t d
/-- The buffer of the second axis' centers before a point. -/
theorem before0_3 (c : Dev nD) (t : Fin cfg0.N) (d) : (dats m 0 c).before 3 t d = iblk m c 3 t :=
  before0_3_of m (dats m 0 c) (A_eq m c 3) (after0_3 m c) t d

/-! ## The body's obligation -/

/-- Where the result's buffer is not stored to, and where it is. -/
theorem idle_4 : ∀ t : Fin cfg0.N, ¬t.val = 30 → cfg0.idle 4 (grid0.coords t) = true := by decide +kernel
/-- The last point stores to the result's buffer. -/
theorem live_4 : ∀ t : Fin cfg0.N, t.val = 30 → cfg0.idle 4 (grid0.coords t) = false := by decide +kernel
/-- No point but the last writes the result back. -/
theorem noFlush_4 : ∀ t : Fin cfg0.N, ¬t.val = 30 → (cfg0.win 4).flush t = false := by decide +kernel

/-- The samples' buffer at a point. -/
abbrev ms0_0 (t : Fin cfg0.N) : Memref sig .tc .vmem S2x32768 .f32 := win0_0.stage (cfg0.slots t 0)
/-- The scales' buffer at a point. -/
abbrev ms0_1 (t : Fin cfg0.N) : Memref sig .tc .vmem S2x1 .f32 := win0_1.stage (cfg0.slots t 1)
/-- The buffer of the first axis' centers at a point. -/
abbrev ms0_2 (t : Fin cfg0.N) : Memref sig .tc .vmem S32x1 .f32 := win0_2.stage (cfg0.slots t 2)
/-- The buffer of the second axis' centers at a point. -/
abbrev ms0_3 (t : Fin cfg0.N) : Memref sig .tc .vmem S32x1 .f32 := win0_3.stage (cfg0.slots t 3)
/-- The result's buffer at a point. -/
abbrev ms0_4 (t : Fin cfg0.N) : Memref sig .tc .vmem S32x32 .f32 := win0_4.stage (cfg0.slots t 4)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t
    ∗ (dats m 0 c).leaves 4 t)

/-- The result's buffer after the body is what the pipeline expects of it: unchanged but at the last point. -/
theorem leaves_4 (c : Dev nD) (t : Fin cfg0.N) (d) :
    owns (c : Thread nD τ) (ms0_4 t) fullShare (outNext (grid0.coords t) ((dats m 0 c).before 4 t d) (acc m c (t.val + 1)))
      ⊢ ((dats m 0 c).leaves 4 t : sProp 𝕄) := by
  by_cases h : t.val = 30
  · refine .trans ?_ ((dats m 0 c).leaves_intro 4 t)
    unfold Dat.leavesExact outNext
    rw [live_4 t h, after0_4, if_pos ((stores_iff t).mpr h)]
  · unfold Dat.leaves outNext
    rw [idle_4 t h, noFlush_4 t h, if_neg (fun hs => h ((stores_iff t).mp hs))]
    iintro H; iexists d; iexact H

set_option maxHeartbeats 1600000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  unfold Phi
  rw [show (dats m 0 c).leaves 1 t = owns (c : Thread nD τ) (ms0_1 t) fullShare (iblk m c 1 t) from by
    unfold Dat.leaves; rw [after0_1]]
  rw [show (dats m 0 c).leaves 2 t = owns (c : Thread nD τ) (ms0_2 t) fullShare (iblk m c 2 t) from by
    unfold Dat.leaves; rw [after0_2]]
  rw [show (dats m 0 c).leaves 3 t = owns (c : Thread nD τ) (ms0_3 t) fullShare (iblk m c 3 t) from by
    unfold Dat.leaves; rw [after0_3]]
  rw [show (dats m 0 c).leaves 0 t = iprop(∃ d, owns (c : Thread nD τ) (ms0_0 t) fullShare
      (win0_0.fill (grid0.coords t) d (iblk m c 0 t))) from by
    unfold Dat.leaves; rw [after0_0]; unfold samples
    rw [show (cfg0.win 0).cut (cfg0.grid.coords t) (win0_0.fill (grid0.coords t) (fun _ => Scalar.ofBits .f32 0x00000000#32) (iblk m c 0 t))
      = iblk m c 0 t from win0_0.cut_fill _ _ _]; rfl]
  iintro ⟨⟨⟨%a, %ha, HS⟩, Hg⟩, Ho, ⟨%d0, H0⟩, ⟨%d1, H1⟩, ⟨%d2, H2⟩, ⟨%d3, H3⟩, ⟨%d4, H4⟩⟩
  iapply (body_run c (grid0.coords t) _ _ _ _ _ _ _ _ _ _ _ _ (win0_0.fill (grid0.coords t) d0 (iblk m c 0 t))
    (iblk m c 1 t) (iblk m c 2 t) (iblk m c 3 t) ((dats m 0 c).before 4 t d4) a Set.univ _)
  have e : accNext (grid0.coords t) (win0_0.fill (grid0.coords t) d0 (iblk m c 0 t)) (iblk m c 1 t) (iblk m c 2 t) (iblk m c 3 t) a
      = acc m c (t.val + 1) := by
    rw [acc_succ, accNext_first t _ _ _ _ a (acc m c t.val) ha]
    exact accNext_fill t _ _ _ _ _ _ _
  rw [e]
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iexists _
      isplitr
      swap; · iexact HS
      ipureintro; intro _; rfl
    iexact Hg
  isplitl [Ho]; · iexact Ho
  isplitl [H0]; · iexists d0; iexact H0
  isplitl [H1]; · iexact H1
  isplitl [H2]; · iexact H2
  isplitl [H3]; · iexact H3
  iapply (leaves_4 m c t d4)
  iexact H4

/-- The body table's row at point `t`'s buffers is the body. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run -/

/-- The launch's scratch, with the accumulator's buffer as an owned buffer. -/
theorem scratch_eq (c : Dev nD) :
    (Pipeline.ΦA spec0 c : sProp 𝕄)
      = iprop((∃ d, owns (c : Thread nD τ) scM fullShare d) ∗ (∃ r, prngReg c r)) := by
  unfold Pipeline.ΦA; rw [scopedRest0_eq]; simp only [scM, owns_whole]; try rfl

/-- What the call starts from gives the invariant before the first point. -/
theorem hin (c : Dev nD) : Pipeline.ΦA spec0 c ⊢ (dats m 0 c).Φ 0 := by
  rw [show (dats m 0 c).Φ 0 = Phi m c 0 from rfl, scratch_eq]
  unfold Phi
  iintro ⟨⟨%a, H⟩, Hg⟩
  isplitl [H]
  · iexists a
    isplitr; · ipureintro; intro h; exact absurd rfl h
    iexact H
  iexact Hg

/-- The invariant after the last point gives back what the call started from. -/
theorem hout (c : Dev nD) : (dats m 0 c).Φ (Fin.last cfg0.N) ⊢ Pipeline.ΦA spec0 c := by
  rw [show (dats m 0 c).Φ (Fin.last cfg0.N) = Phi m c cfg0.N from rfl, scratch_eq]
  unfold Phi
  iintro ⟨⟨%a, %ha, H⟩, Hg⟩
  isplitl [H]
  · iexists a; iexact H
  iexact Hg

set_option backward.isDefEq.respectTransparency.types false in
/-- The launch: every weakly fair execution ends, with the arrays at what the proof data says and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The run of the whole program, with what every array holds at its end. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

end Cert.Kernel.Run

end
-- ==== Proof.KernelIdeal.Body.lean ====
/-
  What one call of the kernel body does (hand-written, untrusted): at a grid point the body adds the point's block of
  samples to the joint accumulator, which it clears at the first point, and at the last point it stores the accumulator,
  normalised, to the result's buffer.
-/
module

public import proofs.«01_k».proof.Proof.Gen.KernelIdeal.Frame
public import proofs.«01_k».proof.Proof.Gen.KernelIdeal.Skeleton
public import Idealize.ShloMosaic.Lib.Pipeline.Value
public import Idealize.ShloMosaic.Lib.Pipeline.ReadBack

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F] [Named F]

local notation "𝕄" => MT nD τ sig Unit (Elt F) ℕ (UR sig nD τ) ℕ

/-! ## The two conditions -/

/-- The body clears the accumulator at grid point `i`. -/
abbrev clears (i : grid0.Coords) : Prop :=
  Scalar.cmpi .ne (Scalar.extui (Scalar.cmpi .eq (BitVec.ofNat 32 (i 0).val) 0#32)) 0#32 = 1#1

/-- The body stores the result at grid point `i`. -/
abbrev stores (i : grid0.Coords) : Prop := k0_cond2 i = 1#1

/-- The grid coordinate of point `t` is `t`. -/
theorem coord_val (t : Fin grid0.N) : (grid0.coords t 0).val = t.val := by
  have ht : t.val < 31 := Nat.lt_of_lt_of_eq t.isLt N_0
  have e : (grid0.coords t 0).val = t.val / 1 % 31 := Pipeline.Grid.coords_val t 0 (by decide) rfl
  omega

/-- The accumulator is cleared at the first point only. -/
theorem clears_iff (t : Fin grid0.N) : clears (grid0.coords t) ↔ t.val = 0 := by
  have ht : t.val < 31 := Nat.lt_of_lt_of_eq t.isLt N_0
  simp only [clears, coord_val]
  word_cmp

/-- The result is stored at the last point only. -/
theorem stores_iff (t : Fin grid0.N) : stores (grid0.coords t) ↔ t.val = 30 := by
  have ht : t.val < 31 := Nat.lt_of_lt_of_eq t.isLt N_0
  simp only [stores, k0_cond2, coord_val]
  word_cmp

/-! ## What the body computes -/

/-- The rectangles the body loads: each row of the block of samples, each of the two scales. -/
abbrev row0 : Rect S2x32768 := Rect.unit (s := S2x32768) ![0, 0] S1x32768.size inb_S2x32768_S1x32768_0_0
/-- The second row of the block of samples. -/
abbrev row1 : Rect S2x32768 := Rect.unit (s := S2x32768) ![1, 0] S1x32768.size inb_S2x32768_S1x32768_1_0
/-- The scale of the first axis. -/
abbrev cell0 : Rect S2x1 := Rect.unit (s := S2x1) ![0, 0] S1x1.size inb_S2x1_S1x1_0_0
/-- The scale of the second axis. -/
abbrev cell1 : Rect S2x1 := Rect.unit (s := S2x1) ![1, 0] S1x1.size inb_S2x1_S1x1_1_0

/-- The accumulator `a` with the block of samples `X` of grid point `i` added, at the scales `q` and the scaled centers
    `cx`, `cy`. -/
def added (i : grid0.Coords) (X : Vec F S2x32768 .f32) (q : Vec F S2x1 .f32) (cx cy : Vec F S32x1 .f32)
    (a : Vec F S32x32 .f32) : Vec F S32x32 .f32 :=
  k0_pay1 (k0_pay5 i (View.ld X row1) (View.ld q cell1) cy) (k0_pay6 i (View.ld X row0) (View.ld q cell0) cx) a

open scoped Classical in
/-- The accumulator after the body at grid point `i`, from the accumulator `a` before it. -/
def accNext (i : grid0.Coords) (X : Vec F S2x32768 .f32) (q : Vec F S2x1 .f32) (cx cy : Vec F S32x1 .f32)
    (a : Vec F S32x32 .f32) : Vec F S32x32 .f32 :=
  added i X q cx cy (if clears i then k0_pay3 else a)

open scoped Classical in
/-- The result's buffer after the body at grid point `i`, from its contents `d` before and the accumulator `s` after. -/
def outNext (i : grid0.Coords) (d s : Vec F S32x32 .f32) : Vec F S32x32 .f32 :=
  if stores i then k0_pay2 s else d

/-! ## The body run -/

theorem offs_zero : (![0, 0] : Fin 2 → Nat) = fun _ => 0 := funext fun a => by fin_cases a <;> rfl

/-- Contents that a whole store left, whatever was stored before, read as what it stored. -/
theorem read_store {κ : Kind} {sp : Space} (v : View sig κ sp S32x32 .f32) (f : v.ty.Contents (Elt F))
    (w : Vec F S32x32 .f32) (L : List (View.Piece (Elt F) S32x32 .f32)) :
    v.read (Elt F) (v.writes (Elt F) f (⟨Rect.unit (s := S32x32) ![0, 0] ![32, 32] inb_S32x32_S32x32_0_0, w⟩ :: L)) = w :=
  (View.read_writes_eq_canon _ _ _ fun y => ⟨_, List.mem_cons_self, View.mem_set_unit_zero offs_zero inb_S32x32_S32x32_0_0 y⟩).trans
    (View.canon_cons_unit_zero offs_zero _ w L)

/-- A load of a whole accumulator, or of a whole column of centers, reads it. -/
theorem ld_acc (a : Vec F S32x32 .f32) :
    View.ld a (Rect.unit (s := S32x32) ![0, 0] ![32, 32] inb_S32x32_S32x32_0_0) = a := View.ld_unit_zero offs_zero _ a
/-- A load of all the scaled centers gives them back. -/
theorem ld_centers (y : Vec F S32x1 .f32) :
    View.ld y (Rect.unit (s := S32x1) ![0, 0] ![32, 1] inb_S32x1_S32x1_0_0) = y := View.ld_unit_zero offs_zero _ y

set_option maxHeartbeats 4000000 in
/-- The body at grid point `i`, on whole buffers: the inputs' are left as they were, the accumulator's at `accNext` and
    the result's at `outNext`. -/
theorem body_run (c : Dev nD) (i : grid0.Coords)
    (arg1 : Memref sig .tc .vmem S2x32768 .f32) (h1 : arg1.IsWhole) (arg2 : Memref sig .tc .vmem S2x1 .f32) (h2 : arg2.IsWhole)
    (arg3 : Memref sig .tc .vmem S32x1 .f32) (h3 : arg3.IsWhole) (arg4 : Memref sig .tc .vmem S32x1 .f32) (h4 : arg4.IsWhole)
    (arg5 : Memref sig .tc .vmem S32x32 .f32) (h5 : arg5.IsWhole) (arg6 : Memref sig .tc .vmem S32x32 .f32) (h6 : arg6.IsWhole)
    (X : Vec F S2x32768 .f32) (q : Vec F S2x1 .f32) (cx cy : Vec F S32x1 .f32) (d a : Vec F S32x32 .f32)
    (E : Set ℕ) (K : PUnit → sProp 𝕄) :
    iprop(owns (c : Thread nD τ) arg1 fullShare X ∗ owns (c : Thread nD τ) arg2 fullShare q
        ∗ owns (c : Thread nD τ) arg3 fullShare cx ∗ owns (c : Thread nD τ) arg4 fullShare cy
        ∗ owns (c : Thread nD τ) arg5 fullShare d ∗ owns (c : Thread nD τ) arg6 fullShare a
        ∗ (iprop(owns (c : Thread nD τ) arg1 fullShare X ∗ owns (c : Thread nD τ) arg2 fullShare q
            ∗ owns (c : Thread nD τ) arg3 fullShare cx ∗ owns (c : Thread nD τ) arg4 fullShare cy
            ∗ owns (c : Thread nD τ) arg5 fullShare (outNext i d (accNext i X q cx cy a))
            ∗ owns (c : Thread nD τ) arg6 fullShare (accNext i X q cx cy a)) -∗ K ⟨⟩))
      ⊢ wp frame (wpE (defs₀ (F := F)) Variants.none c none) E
          (cc0__body i arg1 h1 arg2 h2 arg3 h3 arg4 h4 arg5 h5 arg6 h6) K := by
  by_cases hc : clears i <;> by_cases hs : stores i
  all_goals
    simp only [cc0__body_eq_skeleton]; unfold cc0__body_skel
    simp only [k0_part1_eq_skeleton]
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, Hk⟩
    obtain rfl := h1.eq_unread hf1; obtain rfl := h2.eq_unread hf2; obtain rfl := h3.eq_unread hf3
    obtain rfl := h4.eq_unread hf4; obtain rfl := h5.eq_unread hf5; obtain rfl := h6.eq_unread hf6
    sl_exec (disch := first | sl_exact hc | sl_exact hs)
    sl_step
    iapply Hk
    isplitl [H1]
    · iexists _; isplitr; · ipureintro; exact hf1
      iexact H1
    isplitl [H2]
    · iexists _; isplitr; · ipureintro; exact hf2
      iexact H2
    isplitl [H3]
    · iexists _; isplitr; · ipureintro; exact hf3
      iexact H3
    isplitl [H4]
    · iexists _; isplitr; · ipureintro; exact hf4
      iexact H4
    isplitl [H5]
    · iexists _; isplitr; swap; · iexact H5
      ipureintro
      unfold outNext accNext added
      first | rw [if_pos hc] | rw [if_neg hc]
      first | rw [if_pos hs] | rw [if_neg hs]
      sl_unfold_words
      simp only [hf5, read_store, View.readCov_cons_toLoadRect, View.readAt_eq_ld, h1.read_unread, h2.read_unread,
        h3.read_unread, h4.read_unread, h6.read_unread, ld_acc, ld_centers]
      try rfl
    iexists _; isplitr; swap; · iexact H6
    ipureintro
    unfold accNext added
    first | rw [if_pos hc] | rw [if_neg hc]
    sl_unfold_words
    simp only [read_store, View.readCov_cons_toLoadRect, View.readAt_eq_ld, h1.read_unread, h2.read_unread,
      h3.read_unread, h4.read_unread, h6.read_unread, ld_acc, ld_centers]
    try rfl

end Cert.KernelIdeal.Run

end
-- ==== Proof.KernelIdeal.Tail.lean ====
/-
  What a block of samples is past the end of the array (hand-written, untrusted): the last block of the samples
  overhangs their array, and what its buffer holds there is not named. The body masks those columns, so what it adds to
  the accumulator does not depend on them.
-/
module

public import proofs.«01_k».proof.Proof.KernelIdeal.Body
public import Idealize.ShloMosaic.Lib.Pointwise

@[expose] public section

set_option maxRecDepth 16384

noncomputable section

namespace Cert.KernelIdeal.Run

open Cert.KernelIdeal Cert.KernelIdeal.Gen
open Idealize.ShloMosaic Idealize.ShloMosaic.TcCoe

variable {F : FTy → Type} [FloatOps F] [Named F]

/-- Column `j` of block `t` is not masked exactly when it is a sample: the samples are the first million columns. -/
theorem mask_iff (t : Fin grid0.N) (j : S1x32768.Idx) :
    k0_pay4 (grid0.coords t) j = 1#1 ↔ t.val * 32768 + (j 1).val < 1000000 := by
  have ht : t.val < 31 := Nat.lt_of_lt_of_eq t.isLt N_0
  have hj : (j 1).val < 32768 := (j 1).isLt
  have e : k0_pay4 (grid0.coords t) j
      = IntOp.cmpi .slt (IntOp.addi (BitVec.ofNat 32 (0 * 32768 + (j 1).val))
          (IntOp.muli (BitVec.ofNat 32 (grid0.coords t 0).val) (BitVec.ofNat 32 32768))) (BitVec.ofNat 32 1000000) := rfl
  rw [e, coord_val, WordCmp.muli_ofNat, WordCmp.addi_ofNat, WordCmp.cmpi_slt_ofNat (by omega) (by decide),
    WordCmp.ofBool_eq_one_iff, decide_eq_true_iff]
  omega

/-- The columns of a block that are in the array: all but in the last block. -/
theorem xsize_cols : ∀ t : Fin grid0.N, win0_0.xsize (grid0.coords t) 1 = if t.val = 30 then 16960 else 32768 := by
  decide +kernel
/-- Every block has both rows. -/
theorem xsize_rows : ∀ t : Fin grid0.N, win0_0.xsize (grid0.coords t) 0 = 2 := by
  decide +kernel

/-- An element of a block is fetched exactly when its column is a sample. -/
theorem moved_iff_sample (t : Fin grid0.N) (j : S2x32768.Idx) :
    win0_0.moved (grid0.coords t) j = true ↔ t.val * 32768 + (j 1).val < 1000000 := by
  have ht : t.val < 31 := Nat.lt_of_lt_of_eq t.isLt N_0
  have hj : (j 1).val < 32768 := (j 1).isLt
  have hj0 : (j 0).val < 2 := (j 0).isLt
  have h0 := xsize_rows t
  have h1 := xsize_cols t
  rw [Pipeline.Window.moved_iff]
  constructor
  · intro h
    have h := h 1
    rw [h1] at h
    split at h <;> omega
  · intro h a
    match a with
    | ⟨0, _⟩ => exact lt_of_lt_of_eq hj0 h0.symm
    | ⟨1, _⟩ => exact lt_of_lt_of_eq (b := if t.val = 30 then 16960 else 32768) (show (j 1).val < _ by split <;> omega) h1.symm

/-- The samples the body keeps of a row of its buffer, the masked columns at the named constant. -/
def kept (i : grid0.Coords) (v : Vec F S1x32768 .f32) : FVec F S1x32768 .f32 :=
  select (k0_pay4 i) v (broadcast S1x32768 (Named.named κ "far" 0x4E6E6B28#32))

/-- Rows that agree on the samples are kept alike. -/
theorem kept_congr (t : Fin grid0.N) {v w : Vec F S1x32768 .f32}
    (h : ∀ j : S1x32768.Idx, t.val * 32768 + (j 1).val < 1000000 → v j = w j) :
    kept (grid0.coords t) v = kept (grid0.coords t) w := by
  funext j
  show (if k0_pay4 (grid0.coords t) j = 1#1 then v j else _) = if k0_pay4 (grid0.coords t) j = 1#1 then w j else _
  by_cases hm : k0_pay4 (grid0.coords t) j = 1#1
  · rw [if_pos hm, if_pos hm, h j ((mask_iff t j).mp hm)]
  · rw [if_neg hm, if_neg hm]

/-- A buffer's rows past the end of the array do not matter to what is kept of them. -/
theorem kept_fill0 (t : Fin grid0.N) (d d' : Vec F S2x32768 .f32) (g : (win0_0.xblock (grid0.coords t)).Idx → Elt F .f32) :
    kept (grid0.coords t) (View.ld (win0_0.fill (grid0.coords t) d g) row0)
      = kept (grid0.coords t) (View.ld (win0_0.fill (grid0.coords t) d' g) row0) :=
  kept_congr t fun j hj => by
    have hm : win0_0.moved (grid0.coords t) (row0.emb j) = true := (moved_iff_sample t _).mpr (by
      have e : ((row0.emb j) 1).val = 0 + 1 * (j 1).val := rfl
      omega)
    show win0_0.fill (grid0.coords t) d g (row0.emb j) = win0_0.fill (grid0.coords t) d' g (row0.emb j)
    unfold Pipeline.Window.fill; rw [dif_pos hm, dif_pos hm]
/-- The same of the second row. -/
theorem kept_fill1 (t : Fin grid0.N) (d d' : Vec F S2x32768 .f32) (g : (win0_0.xblock (grid0.coords t)).Idx → Elt F .f32) :
    kept (grid0.coords t) (View.ld (win0_0.fill (grid0.coords t) d g) row1)
      = kept (grid0.coords t) (View.ld (win0_0.fill (grid0.coords t) d' g) row1) :=
  kept_congr t fun j hj => by
    have hm : win0_0.moved (grid0.coords t) (row1.emb j) = true := (moved_iff_sample t _).mpr (by
      have e : ((row1.emb j) 1).val = 0 + 1 * (j 1).val := rfl
      omega)
    show win0_0.fill (grid0.coords t) d g (row1.emb j) = win0_0.fill (grid0.coords t) d' g (row1.emb j)
    unfold Pipeline.Window.fill; rw [dif_pos hm, dif_pos hm]

/-- The kernel values of one axis depend on the samples kept only. -/
theorem pay5_congr (i : grid0.Coords) {v w : Vec F S1x32768 .f32} (h : kept i v = kept i w) (q : Vec F S1x1 .f32)
    (y : Vec F S32x1 .f32) : k0_pay5 i v q y = k0_pay5 i w q y := by
  unfold kept at h
  unfold k0_pay5
  simp only [shapeCast_self]
  rw [h]
/-- The same of the first axis. -/
theorem pay6_congr (i : grid0.Coords) {v w : Vec F S1x32768 .f32} (h : kept i v = kept i w) (q : Vec F S1x1 .f32)
    (y : Vec F S32x1 .f32) : k0_pay6 i v q y = k0_pay6 i w q y := by
  unfold kept at h
  unfold k0_pay6
  simp only [shapeCast_self]
  rw [h]

/-- What the body leaves in the accumulator does not depend on what the buffer holds past the end of the array. -/
theorem accNext_fill (t : Fin grid0.N) (d d' : Vec F S2x32768 .f32) (g : (win0_0.xblock (grid0.coords t)).Idx → Elt F .f32)
    (q : Vec F S2x1 .f32) (cx cy : Vec F S32x1 .f32) (a : Vec F S32x32 .f32) :
    accNext (grid0.coords t) (win0_0.fill (grid0.coords t) d g) q cx cy a
      = accNext (grid0.coords t) (win0_0.fill (grid0.coords t) d' g) q cx cy a := by
  unfold accNext added
  exact congrArg₂ (fun u v => k0_pay1 u v _) (pay5_congr _ (kept_fill1 t d d' g) _ _)
    (pay6_congr _ (kept_fill0 t d d' g) _ _)

end Cert.KernelIdeal.Run

end
-- ==== Proof.KernelIdeal.Frame.lean ====
/-
  The run of the whole kernel (hand-written, untrusted): the accumulator after each grid point, the proof data that says
  so, the body's obligation at every point, and the run: the arguments end unchanged, the counters end at zero, and the
  result is the accumulator after the last point, normalised.
-/
module

public import proofs.«01_k».proof.Proof.KernelIdeal.Tail
public import Idealize.ShloMosaic.Lib.Pipeline.FrameValue
public import Idealize.ShloMosaic.Lib.Claim

@[expose] public section

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The accumulator, point by point -/

/-- The block of samples at point `t`, with zeros past the end of the array. -/
def samples (c : Dev nD) (t : Fin grid0.N) : Vec F S2x32768 .f32 :=
  win0_0.fill (grid0.coords t) (fun _ => Scalar.ofBits .f32 0x00000000#32) (iblk m c 0 t)

/-- The accumulator after the first `n` points (past the grid's end, as after its last point). -/
def acc (c : Dev nD) : ℕ → Vec F S32x32 .f32
  | 0 => k0_pay3
  | n + 1 => if h : n < grid0.N then
      accNext (grid0.coords ⟨n, h⟩) (samples m c ⟨n, h⟩) (iblk m c 1 ⟨n, h⟩) (iblk m c 2 ⟨n, h⟩) (iblk m c 3 ⟨n, h⟩) (acc c n)
    else acc c n

/-- One point further. -/
theorem acc_succ (c : Dev nD) (t : Fin grid0.N) :
    acc m c (t.val + 1)
      = accNext (grid0.coords t) (samples m c t) (iblk m c 1 t) (iblk m c 2 t) (iblk m c 3 t) (acc m c t.val) := by
  rw [acc, dif_pos t.isLt]

/-- At the first point it does not matter what the accumulator held: the body clears it. -/
theorem accNext_first (t : Fin grid0.N) (X : Vec F S2x32768 .f32) (q : Vec F S2x1 .f32) (cx cy : Vec F S32x1 .f32)
    (a b : Vec F S32x32 .f32) (h : t.val ≠ 0 → a = b) :
    accNext (grid0.coords t) X q cx cy a = accNext (grid0.coords t) X q cx cy b := by
  by_cases hz : t.val = 0
  · unfold accNext; rw [if_pos ((clears_iff t).mpr hz), if_pos ((clears_iff t).mpr hz)]
  · rw [h hz]

/-! ## The proof data -/

/-- The accumulator's buffer. -/
abbrev scM : Memref sig .tc .vmem S32x32 .f32 := Memref.whole cc0_scratch0

/-- Before point `n`: the accumulator's buffer holds `acc n` (at the first point, anything), and the generator's
    register some state. -/
def Phi (c : Dev nD) (n : ℕ) : sProp 𝕄 :=
  iprop((∃ a, ⌜n ≠ 0 → a = acc m c n⌝ ∗ owns (c : Thread nD τ) scM fullShare a) ∗ ∃ r, prngReg c r)

/-- The proof data: each input's buffer keeps its block, the result's buffer holds the normalised accumulator, and
    the accumulator is carried. -/
def dats (_ : Fin 1) (c : Dev nD) : Dat τ (Elt F) Unit ℕ (UR sig nD τ) ℕ cfg0 c where
  A w := V m c (Pipeline.arrRef spec0 w)
  after w t := match w with
    | ⟨0, _⟩ => samples m c t
    | ⟨1, _⟩ => iblk m c 1 t
    | ⟨2, _⟩ => iblk m c 2 t
    | ⟨3, _⟩ => iblk m c 3 t
    | ⟨4, _⟩ => k0_pay2 (acc m c (t.val + 1))
  Φ t := Phi m c t.val
  q _ := fullShare
  owed _ := 0

/-- The arrays at the call are what the host code before it leaves. -/
theorem A_eq (c : Dev nD) (w : Fin cfg0.W) : (dats m 0 c).A w = V m c (Pipeline.arrRef spec0 w) := by
  dsimp only [dats]

/-- The samples' buffer after a point. -/
theorem after0_0 (c : Dev nD) (t : Fin cfg0.N) : (dats m 0 c).after 0 t = samples m c t := by dsimp only [dats]
/-- The scales' buffer after a point. -/
theorem after0_1 (c : Dev nD) (t : Fin cfg0.N) : (dats m 0 c).after 1 t = iblk m c 1 t := by dsimp only [dats]
/-- The buffer of the first axis' centers after a point. -/
theorem after0_2 (c : Dev nD) (t : Fin cfg0.N) : (dats m 0 c).after 2 t = iblk m c 2 t := by dsimp only [dats]
/-- The buffer of the second axis' centers after a point. -/
theorem after0_3 (c : Dev nD) (t : Fin cfg0.N) : (dats m 0 c).after 3 t = iblk m c 3 t := by dsimp only [dats]
/-- The result's buffer after a point that stores. -/
theorem after0_4 (c : Dev nD) (t : Fin cfg0.N) : (dats m 0 c).after 4 t = k0_pay2 (acc m c (t.val + 1)) := by
  dsimp only [dats]

/-- The samples' buffer at every point: the block, over whatever was there. -/
theorem before0_0 (c : Dev nD) (t : Fin cfg0.N) (d) :
    (dats m 0 c).before 0 t d = win0_0.fill (grid0.coords t) d (iblk m c 0 t) := by
  unfold Dat.before; rw [if_pos (fetch0_0 t)]; rfl
/-- The scales' buffer before a point. -/
theorem before0_1 (c : Dev nD) (t : Fin cfg0.N) (d) : (dats m 0 c).before 1 t d = iblk m c 1 t :=
  before0_1_of m (dats m 0 c) (A_eq m c 1) (after0_1 m c) t d
/-- The buffer of the first axis' centers before a point. -/
theorem before0_2 (c : Dev nD) (t : Fin cfg0.N) (d) : (dats m 0 c).before 2 t d = iblk m c 2 t :=
  before0_2_of m (dats m 0 c) (A_eq m c 2) (after0_2 m c) t d
/-- The buffer of the second axis' centers before a point. -/
theorem before0_3 (c : Dev nD) (t : Fin cfg0.N) (d) : (dats m 0 c).before 3 t d = iblk m c 3 t :=
  before0_3_of m (dats m 0 c) (A_eq m c 3) (after0_3 m c) t d

/-! ## The body's obligation -/

/-- Where the result's buffer is not stored to, and where it is. -/
theorem idle_4 : ∀ t : Fin cfg0.N, ¬t.val = 30 → cfg0.idle 4 (grid0.coords t) = true := by decide +kernel
/-- The last point stores to the result's buffer. -/
theorem live_4 : ∀ t : Fin cfg0.N, t.val = 30 → cfg0.idle 4 (grid0.coords t) = false := by decide +kernel
/-- No point but the last writes the result back. -/
theorem noFlush_4 : ∀ t : Fin cfg0.N, ¬t.val = 30 → (cfg0.win 4).flush t = false := by decide +kernel

/-- The samples' buffer at a point. -/
abbrev ms0_0 (t : Fin cfg0.N) : Memref sig .tc .vmem S2x32768 .f32 := win0_0.stage (cfg0.slots t 0)
/-- The scales' buffer at a point. -/
abbrev ms0_1 (t : Fin cfg0.N) : Memref sig .tc .vmem S2x1 .f32 := win0_1.stage (cfg0.slots t 1)
/-- The buffer of the first axis' centers at a point. -/
abbrev ms0_2 (t : Fin cfg0.N) : Memref sig .tc .vmem S32x1 .f32 := win0_2.stage (cfg0.slots t 2)
/-- The buffer of the second axis' centers at a point. -/
abbrev ms0_3 (t : Fin cfg0.N) : Memref sig .tc .vmem S32x1 .f32 := win0_3.stage (cfg0.slots t 3)
/-- The result's buffer at a point. -/
abbrev ms0_4 (t : Fin cfg0.N) : Memref sig .tc .vmem S32x32 .f32 := win0_4.stage (cfg0.slots t 4)

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t ∗ (dats m 0 c).leaves 3 t
    ∗ (dats m 0 c).leaves 4 t)

/-- The result's buffer after the body is what the pipeline expects of it: unchanged but at the last point. -/
theorem leaves_4 (c : Dev nD) (t : Fin cfg0.N) (d) :
    owns (c : Thread nD τ) (ms0_4 t) fullShare (outNext (grid0.coords t) ((dats m 0 c).before 4 t d) (acc m c (t.val + 1)))
      ⊢ ((dats m 0 c).leaves 4 t : sProp 𝕄) := by
  by_cases h : t.val = 30
  · refine .trans ?_ ((dats m 0 c).leaves_intro 4 t)
    unfold Dat.leavesExact outNext
    rw [live_4 t h, after0_4, if_pos ((stores_iff t).mpr h)]
  · unfold Dat.leaves outNext
    rw [idle_4 t h, noFlush_4 t h, if_neg (fun hs => h ((stores_iff t).mp hs))]
    iintro H; iexists d; iexact H

set_option maxHeartbeats 1600000 in
/-- The body at any point takes the one to the other. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3]
  rw [show (dats m 0 c).owesAt () t.succ = (dats m 0 c).owesAt () t.castSucc from rfl]
  rw [show (dats m 0 c).Φ t.castSucc = Phi m c t.val from rfl, show (dats m 0 c).Φ t.succ = Phi m c (t.val + 1) from rfl]
  unfold Phi
  rw [show (dats m 0 c).leaves 1 t = owns (c : Thread nD τ) (ms0_1 t) fullShare (iblk m c 1 t) from by
    unfold Dat.leaves; rw [after0_1]]
  rw [show (dats m 0 c).leaves 2 t = owns (c : Thread nD τ) (ms0_2 t) fullShare (iblk m c 2 t) from by
    unfold Dat.leaves; rw [after0_2]]
  rw [show (dats m 0 c).leaves 3 t = owns (c : Thread nD τ) (ms0_3 t) fullShare (iblk m c 3 t) from by
    unfold Dat.leaves; rw [after0_3]]
  rw [show (dats m 0 c).leaves 0 t = iprop(∃ d, owns (c : Thread nD τ) (ms0_0 t) fullShare
      (win0_0.fill (grid0.coords t) d (iblk m c 0 t))) from by
    unfold Dat.leaves; rw [after0_0]; unfold samples
    rw [show (cfg0.win 0).cut (cfg0.grid.coords t) (win0_0.fill (grid0.coords t) (fun _ => Scalar.ofBits .f32 0x00000000#32) (iblk m c 0 t))
      = iblk m c 0 t from win0_0.cut_fill _ _ _]; rfl]
  iintro ⟨⟨⟨%a, %ha, HS⟩, Hg⟩, Ho, ⟨%d0, H0⟩, ⟨%d1, H1⟩, ⟨%d2, H2⟩, ⟨%d3, H3⟩, ⟨%d4, H4⟩⟩
  iapply (body_run c (grid0.coords t) _ _ _ _ _ _ _ _ _ _ _ _ (win0_0.fill (grid0.coords t) d0 (iblk m c 0 t))
    (iblk m c 1 t) (iblk m c 2 t) (iblk m c 3 t) ((dats m 0 c).before 4 t d4) a Set.univ _)
  have e : accNext (grid0.coords t) (win0_0.fill (grid0.coords t) d0 (iblk m c 0 t)) (iblk m c 1 t) (iblk m c 2 t) (iblk m c 3 t) a
      = acc m c (t.val + 1) := by
    rw [acc_succ, accNext_first t _ _ _ _ a (acc m c t.val) ha]
    exact accNext_fill t _ _ _ _ _ _ _
  rw [e]
  isplitl [H0]; · iexact H0
  isplitl [H1]; · iexact H1
  isplitl [H2]; · iexact H2
  isplitl [H3]; · iexact H3
  isplitl [H4]; · iexact H4
  isplitl [HS]; · iexact HS
  iintro ⟨H0, H1, H2, H3, H4, HS⟩
  isplitl [HS Hg]
  · isplitl [HS]
    · iexists _
      isplitr
      swap; · iexact HS
      ipureintro; intro _; rfl
    iexact Hg
  isplitl [Ho]; · iexact Ho
  isplitl [H0]; · iexists d0; iexact H0
  isplitl [H1]; · iexact H1
  isplitl [H2]; · iexact H2
  isplitl [H3]; · iexact H3
  iapply (leaves_4 m c t d4)
  iexact H4

/-- The body table's row at point `t`'s buffers is the body. -/
theorem defs₀_row (t : Fin cfg0.N) :
    defs₀ (F := F) .tc cfg0.body (cfg0.bodyArgs t (cfg0.slots t)) = bodyAt0 t := by
  unfold defs₀; rw [Defs.onTc_tc]

/-- The pipeline's body obligation, at every point. -/
theorem body_obligation (c : Dev nD) : BodyObligationLoose (dats (F := F) m 0 c) (defs₀ (F := F)) Variants.none () Set.univ := fun t => by
  rw [bigSep_W0, bigSep_W0, defs₀_row]
  exact triple_restated (sound_body m c t) rfl .rfl fun _ => .rfl

/-! ## The run -/

/-- The launch's scratch, with the accumulator's buffer as an owned buffer. -/
theorem scratch_eq (c : Dev nD) :
    (Pipeline.ΦA spec0 c : sProp 𝕄)
      = iprop((∃ d, owns (c : Thread nD τ) scM fullShare d) ∗ (∃ r, prngReg c r)) := by
  unfold Pipeline.ΦA; rw [scopedRest0_eq]; simp only [scM, owns_whole]; try rfl

/-- What the call starts from gives the invariant before the first point. -/
theorem hin (c : Dev nD) : Pipeline.ΦA spec0 c ⊢ (dats m 0 c).Φ 0 := by
  rw [show (dats m 0 c).Φ 0 = Phi m c 0 from rfl, scratch_eq]
  unfold Phi
  iintro ⟨⟨%a, H⟩, Hg⟩
  isplitl [H]
  · iexists a
    isplitr; · ipureintro; intro h; exact absurd rfl h
    iexact H
  iexact Hg

/-- The invariant after the last point gives back what the call started from. -/
theorem hout (c : Dev nD) : (dats m 0 c).Φ (Fin.last cfg0.N) ⊢ Pipeline.ΦA spec0 c := by
  rw [show (dats m 0 c).Φ (Fin.last cfg0.N) = Phi m c cfg0.N from rfl, scratch_eq]
  unfold Phi
  iintro ⟨⟨%a, %ha, H⟩, Hg⟩
  isplitl [H]
  · iexists a; iexact H
  iexact Hg

set_option backward.isDefEq.respectTransparency.types false in
/-- The launch: every weakly fair execution ends, with the arrays at what the proof data says and the counters at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => body_obligation m c) (hshare := fun c => (dats m 0 c).share_full fun _ => rfl)
    (howed := fun _ _ => rfl) (V := V m) (hmain := hmain m Variants.none) (hA := A_eq m) (hin := hin m) (hout := hout m)

/-- The run of the whole program, with what every array holds at its end. -/
theorem run_main : θ_run defs (onTc (τ := τ) (main (F := F))) (s₀ m ρ) (Pipeline.FramePost cfgs (dats m) 0 (V m)) :=
  (θ_run defs _ _).mono (fun _ h => h.1) (run_main_quiescent m ρ)

/-- The frame: the arguments end unchanged and the counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (A_eq m) (run_main m ρ)) ((θ_run defs _ _).mono (fun _ h => h.2) (run_main_quiescent m ρ))

/-! ## The result -/

/-- The result after the run: the accumulator after all 31 points, normalised. -/
def result (c : Dev nD) : Vec F S32x32 .f32 := k0_pay2 (acc m c 31)

/-- The result's window stays at the one block. -/
theorem index_4 : ∀ t : Fin cfg0.N, win0_4.index t (0 : Fin 2) = 0 ∧ win0_4.index t (1 : Fin 2) = 0 :=
  (by decide +kernel : ∀ t : Fin grid0.N, _)

/-- The one block of the result is the result. -/
theorem emb_4 (t : Fin cfg0.N) (y : S32x32.Idx) : ((cfg0.win 4).blk t).view.emb y = y := by
  obtain ⟨e0, e1⟩ := index_4 t
  funext a; apply Fin.ext
  match a with
  | ⟨0, _⟩ => show win0_4.index t (0 : Fin 2) * 32 + 1 * (y 0).val = (y 0).val; omega
  | ⟨1, _⟩ => show win0_4.index t (1 : Fin 2) * 32 + 1 * (y 1).val = (y 1).val; omega

/-- What is written back is the normalised accumulator. -/
theorem flushed_4 (c : Dev nD) (t : Fin cfg0.N) (hf : (cfg0.win 4).flush t = true) :
    (dats m 0 c).flushed 4 t = ((cfg0.win 4).blk t).view.read (Elt F) (result m c) := by
  show (cfg0.win 4).cut (grid0.coords t) ((dats m 0 c).after 4 t) = _
  have ht : t.val < 31 := Nat.lt_of_lt_of_eq t.isLt N_0
  have hm : t.val % 31 = 30 := (flush0_4 t).mp hf
  rw [after0_4, show t.val + 1 = 31 by omega]
  funext y
  show result m c _ = result m c (((cfg0.win 4).blk t).view.emb y)
  rw [emb_4]

/-- The result array at the end of the run. -/
theorem final_4 (c : Dev nD) : (dats m 0 c).arrAt 4 cfg0.N = result m c :=
  (dats m 0 c).arrAt_eq_of_cover 4 _ (flushed_4 m c) fun i =>
    ⟨(⟨30, lt_of_lt_of_eq (by decide) N_0.symm⟩ : Fin cfg0.N), (flush0_4 _).mpr rfl, by
      have e := emb_4 (⟨30, lt_of_lt_of_eq (by decide) N_0.symm⟩ : Fin cfg0.N) i
      exact Finset.mem_map.mpr ⟨i, Finset.mem_univ _, e⟩⟩

/-- The run, read: the result is the normalised accumulator, the arguments are unchanged. -/
theorem run : θ_run defs (onTc (τ := τ) (main (F := F))) ⟨m, fun _ => 0, ρ⟩ fun r => ∀ c : Dev nD,
      r.2.mem ((c : Thread nD τ).loc main_v43) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨((h c).1 4).trans (final_4 m c),
      ((h c).2 main_arg0 (Pipeline.mem_restRefs_of main_arg0 (by decide) (by decide))).trans (V_main_arg0 m c),
      ((h c).2 main_arg1 (Pipeline.mem_restRefs_of main_arg1 (by decide) (by decide))).trans (V_main_arg1 m c),
      ((h c).2 main_arg2 (Pipeline.mem_restRefs_of main_arg2 (by decide) (by decide))).trans (V_main_arg2 m c)⟩)
    (run_main m ρ)

end Cert.KernelIdeal.Run

end
-- ==== Proof.Axis.lean ====
module

public import Idealize.ShloMosaic.PureOps.Ideal
public import Idealize.ShloMosaic.Lib.Pointwise

/-!
One axis of the smoothed histogram, over the extended reals.

The reference weighs a sample `x` against a bin of center `c` and width `d` by `exp (-1/2 * ((x - c) / d)²)`. The kernel
scales sample and center by `q = σ / d` first and takes `2 ^ (t * (0 - t))` of the difference `t`. The scale `σ` is
chosen so that `σ² * log 2 = 1/2`, which makes the two weights one number for every sample and center when `d` is not
zero.
-/

@[expose] public section

noncomputable section

namespace Cert.Hist

open Idealize.ShloMosaic

/-- The weight the reference gives a sample `x` in the bin of center `c` and width `d`. -/
def gauss (x c d : EReal) : EReal :=
  Ideal.exp (Ideal.ofBits .f32 0xBF000000#32 * (Ideal.div (x - c) d * Ideal.div (x - c) d))

/-- The kernel's exponent argument: scaled sample minus scaled center. -/
def offset (x c q : EReal) : EReal := x * q - c * q

/-- The weight the kernel gives a sample `x` in the bin of center `c` under the scale `q`. -/
def weight (x c q : EReal) : EReal := Ideal.exp2 (offset x c q * (0 - offset x c q))

/-- The kernel's scale before the division by a bin's width: `sqrt (log (exp 1) / log 2) / sqrt 2`. -/
def sigma : EReal :=
  Ideal.div (Ideal.sqrt (Ideal.div (Ideal.log (Ideal.exp (Ideal.ofBits .f32 0x3F800000#32)))
    (Ideal.log (Ideal.ofBits .f32 0x40000000#32)))) (Ideal.sqrt (Ideal.ofBits .f32 0x40000000#32))

/-! ## Words -/

theorem word_neg_half : Ideal.ofBits .f32 0xBF000000#32 = ((-(1 / 2) : ℝ) : EReal) := by
  simp [Ideal.ofBits, Ideal.ieee, -EReal.coe_mul]; norm_num

/-- The word of two. -/
theorem word_two : Ideal.ofBits .f32 0x40000000#32 = ((2 : ℝ) : EReal) := by
  simp [Ideal.ofBits, Ideal.ieee, -EReal.coe_mul]; norm_num

/-- The word of infinity. -/
theorem word_inf : Ideal.ofBits .f32 0x7F800000#32 = ⊤ := by
  simp [Ideal.ofBits, Ideal.ieee]

/-! ## The scale -/

/-- The scale as a real number. -/
def sigmaR : ℝ := Real.sqrt (1 / Real.log 2) * (1 / Real.sqrt 2)

/-- The logarithm of two is positive. -/
theorem log_two_pos : (0 : ℝ) < Real.log 2 := Real.log_pos (by norm_num)

/-- The scale is that real number. -/
theorem sigma_eq : sigma = (sigmaR : EReal) := by
  have h2 : ¬ (2 : ℝ) ≤ 0 := by norm_num
  have h2' : ¬ (2 : ℝ) < 0 := by norm_num
  have he : ¬ Real.exp 1 ≤ 0 := not_le.mpr (Real.exp_pos 1)
  have h1 : Ideal.ofBits .f32 0x3F800000#32 = ((1 : ℝ) : EReal) := by
    rw [Ideal.ofBits_one_f32]; rfl
  have hd : ¬ (1 / Real.log 2 : ℝ) < 0 := not_lt.mpr (by have := log_two_pos; positivity)
  unfold sigma sigmaR
  rw [word_two, h1, Ideal.exp_coe, Ideal.log_coe, if_neg he, Real.log_exp, Ideal.log_coe, if_neg h2,
    Ideal.div_coe log_two_pos.ne', ← EReal.coe_mul, one_mul, Ideal.sqrt_coe, if_neg hd, Ideal.sqrt_coe, if_neg h2',
    Ideal.div_coe (by positivity), ← EReal.coe_mul]

/-- The scale is positive. -/
theorem sigmaR_pos : 0 < sigmaR := by
  have := log_two_pos
  unfold sigmaR; positivity

/-- What the scale is for: base two with the scaled offset is base `e` with one half of the square. -/
theorem sigmaR_sq : Real.log 2 * sigmaR ^ 2 = 1 / 2 := by
  have := log_two_pos
  unfold sigmaR
  rw [mul_pow, div_pow, Real.sq_sqrt (by positivity), Real.sq_sqrt (by norm_num)]
  field_simp

/-! ## Infinite offsets -/

/-- The extended real is one of the two infinities. -/
def Infinite (x : EReal) : Prop := x = ⊤ ∨ x = ⊥

/-- An extended real is an infinity or a real number. -/
theorem infinite_or_real (x : EReal) : Infinite x ∨ ∃ r : ℝ, x = r := by
  induction x with
  | bot => exact .inl (.inr rfl)
  | top => exact .inl (.inl rfl)
  | coe r => exact .inr ⟨r, rfl⟩

/-- An infinity times a real number other than zero is an infinity. -/
theorem Infinite.mul_coe {x : EReal} (h : Infinite x) {q : ℝ} (hq : q ≠ 0) : Infinite (x * q) := by
  rcases lt_or_gt_of_ne hq with hq | hq <;> rcases h with rfl | rfl
  · exact .inr (EReal.top_mul_coe_of_neg hq)
  · exact .inl (EReal.bot_mul_coe_of_neg hq)
  · exact .inl (EReal.top_mul_coe_of_pos hq)
  · exact .inr (EReal.bot_mul_coe_of_pos hq)

/-- A difference is an infinity when the first term is one, whatever the second is. -/
theorem Infinite.sub_left {x : EReal} (h : Infinite x) (y : EReal) : Infinite (x - y) := by
  rcases h with rfl | rfl
  · induction y with
    | bot => exact .inl (by simp)
    | top => exact .inr (by simp)
    | coe r => exact .inl (by simp)
  · exact .inr (by simp)

/-- A difference is an infinity when the second term is one, whatever the first is. -/
theorem Infinite.sub_right {y : EReal} (h : Infinite y) (x : EReal) : Infinite (x - y) := by
  rcases h with rfl | rfl
  · exact .inr (by simp)
  · induction x with
    | bot => exact .inr (by simp)
    | top => exact .inl (by simp)
    | coe r => exact .inl (by simp)

/-- An infinite offset has weight zero in base two. -/
theorem Infinite.exp2_zero {t : EReal} (h : Infinite t) : Ideal.exp2 (t * (0 - t)) = 0 := by
  rcases h with rfl | rfl <;> simp

/-- An infinite offset has weight zero in base `e`. -/
theorem Infinite.exp_zero {r : EReal} (h : Infinite r) :
    Ideal.exp (Ideal.ofBits .f32 0xBF000000#32 * (r * r)) = 0 := by
  have hneg : (-(1 / 2) : ℝ) < 0 := by norm_num
  rw [word_neg_half]
  rcases h with rfl | rfl
  · rw [EReal.top_mul_top, EReal.coe_mul_top_of_neg hneg, Ideal.exp_bot]
  · rw [EReal.bot_mul_bot, EReal.coe_mul_top_of_neg hneg, Ideal.exp_bot]

/-! ## The equation of one axis -/

/-- For real sample and center: `2 ^ (-t²) = exp (-1/2 * r²)` with `t = σ * r`. -/
theorem real_axis (x c d : ℝ) (hd : d ≠ 0) :
    Real.rpow 2 ((x * (sigmaR * (1 / d)) - c * (sigmaR * (1 / d))) * (0 - (x * (sigmaR * (1 / d)) - c * (sigmaR * (1 / d)))))
      = Real.exp (-(1 / 2) * ((x - c) * (1 / d) * ((x - c) * (1 / d)))) := by
  have h : ∀ y : ℝ, Real.rpow 2 y = Real.exp (Real.log 2 * y) := fun y => Real.rpow_def_of_pos (by norm_num) y
  rw [h]
  congr 1
  linear_combination (-(((x - c) * (1 / d)) ^ 2)) * sigmaR_sq

/-- For a width that is a real number other than zero the kernel's weight under the scale `σ / d` is the reference's
weight, at every sample and center, infinities included. -/
theorem weight_eq_real (x c : EReal) {d : ℝ} (hd : d ≠ 0) : weight x c (Ideal.div sigma d) = gauss x c d := by
  have hq : sigmaR * (1 / d) ≠ 0 := mul_ne_zero sigmaR_pos.ne' (one_div_ne_zero hd)
  have hscale : Ideal.div sigma d = ((sigmaR * (1 / d) : ℝ) : EReal) := by
    rw [sigma_eq, Ideal.div_coe hd, EReal.coe_mul]
  unfold weight gauss offset
  rw [hscale, Ideal.div_coe hd]
  rcases infinite_or_real x with hx | ⟨x, rfl⟩
  · rw [((hx.mul_coe hq).sub_left _).exp2_zero, ((hx.sub_left c).mul_coe (one_div_ne_zero hd)).exp_zero]
  rcases infinite_or_real c with hc | ⟨c, rfl⟩
  · rw [((hc.mul_coe hq).sub_right _).exp2_zero, ((hc.sub_right _).mul_coe (one_div_ne_zero hd)).exp_zero]
  rw [word_neg_half]
  have h0 : (0 : EReal) = ((0 : ℝ) : EReal) := rfl
  rw [h0]
  simp only [← EReal.coe_mul, ← EReal.coe_sub, Ideal.exp2_coe, Ideal.exp_coe]
  rw [real_axis x c d hd]

/-- A quotient by an infinity is zero. -/
theorem div_infinite {d : EReal} (hd : Infinite d) (x : EReal) : Ideal.div x d = 0 := by
  rcases hd with rfl | rfl <;> simp [Ideal.div]

/-- For an infinite width both weights are one, at every sample and center. -/
theorem weight_eq_infinite (x c : EReal) {d : EReal} (hd : Infinite d) : weight x c (Ideal.div sigma d) = gauss x c d := by
  unfold weight gauss offset
  rw [div_infinite hd, div_infinite hd, mul_zero, mul_zero, mul_zero, mul_zero, sub_zero, zero_mul]
  have h0 : (0 : EReal) = ((0 : ℝ) : EReal) := rfl
  rw [h0, Ideal.exp2_coe, Ideal.exp_coe, Real.exp_zero]
  exact congrArg _ (Real.rpow_zero 2)

/-- **One axis.** For a width other than zero the kernel's weight under the scale `σ / d` is the reference's weight, at
every sample and center. -/
theorem weight_eq (x c : EReal) {d : EReal} (hd : d ≠ 0) : weight x c (Ideal.div sigma d) = gauss x c d := by
  rcases infinite_or_real d with h | ⟨d, rfl⟩
  · exact weight_eq_infinite x c h
  · exact weight_eq_real x c fun h => hd (by rw [h]; rfl)

/-- A sample at infinity, which is what the kernel puts at a position past the last sample, has weight zero in every
bin of real width. -/
theorem weight_top (c : EReal) {d : ℝ} (hd : d ≠ 0) : weight ⊤ c (Ideal.div sigma d) = 0 := by
  have hq : sigmaR * (1 / d) ≠ 0 := mul_ne_zero sigmaR_pos.ne' (one_div_ne_zero hd)
  have hscale : Ideal.div sigma d = ((sigmaR * (1 / d) : ℝ) : EReal) := by
    rw [sigma_eq, Ideal.div_coe hd, EReal.coe_mul]
  unfold weight offset
  rw [hscale]
  exact ((Infinite.mul_coe (.inl rfl) hq).sub_left _).exp2_zero

end Cert.Hist

end
-- ==== Proof.Hist.lean ====
module

public import proofs.«01_k».proof.Proof.Axis

/-!
The smoothed joint histogram of two columns of the samples, as the reference computes it over the extended reals.
-/

@[expose] public section

noncomputable section

namespace Cert.Hist

open Idealize.ShloMosaic

/-- The samples: a million rows, of which columns 0 and 1 are used. -/
abbrev Samples : Type := (⟨2, ![1000000, 6]⟩ : Shape).Idx → EReal

/-- The edges of one axis' 32 bins. -/
abbrev Edges : Type := (⟨1, ![33]⟩ : Shape).Idx → EReal

/-- The middle of bin `j`. -/
def center (e : Edges) (j : Fin 32) : EReal :=
  Ideal.ofBits .f32 0x3F000000#32 * (e (ix1 ⟨j.val, by omega⟩) + e (ix1 ⟨1 + j.val, by omega⟩))

/-- The width of the first bin, which stands for every bin's. -/
def width (e : Edges) : EReal := e (ix1 1) - e (ix1 0)

/-- What the equation asks of the widths: neither is zero, and one of them is a real number. -/
structure Widths (ex ey : Edges) : Prop where
  ne_x : width ex ≠ 0
  ne_y : width ey ≠ 0
  real : (∃ d : ℝ, width ex = d ∧ d ≠ 0) ∨ ∃ d : ℝ, width ey = d ∧ d ≠ 0

/-- The scale by which the kernel multiplies samples and centers of one axis. -/
def scale (e : Edges) : EReal := Ideal.div sigma (width e)

/-- The sum over all samples of the product of the two axes' weights, for the bin `(i, j)`. -/
def joint (x : Samples) (ex ey : Edges) (i j : Fin 32) : EReal :=
  ∑ n : Fin 1000000, gauss (x (ix2 n 0)) (center ex i) (width ex) * gauss (x (ix2 n 1)) (center ey j) (width ey)

/-- A table of sums divided by its total plus the small constant. -/
def normalized (g : Fin 32 → Fin 32 → EReal) (i j : Fin 32) : EReal :=
  Ideal.div (g i j) (∑ i', ∑ j', g i' j' + Ideal.ofBits .f32 0x2EDBE6FF#32)

end Cert.Hist

end
-- ==== Proof.KernelIdeal.Entry.lean ====
module

public import proofs.«01_k».proof.Proof.KernelIdeal.Frame
public import proofs.«01_k».proof.Proof.Hist
public import Idealize.ShloMosaic.Lib.Pipeline.ValueKit
public import Idealize.ShloMosaic.Lib.Tactic.ValueTie

/-!
What the kernel's blocks hold in terms of the program's arguments: a block of samples, the two scales, the scaled
centers.
-/

@[expose] public section

noncomputable section

namespace Cert.Hist

open Idealize.ShloMosaic Idealize.ShloMosaic.TcCoe Idealize.SL.Sem
open Cert.KernelIdeal Cert.KernelIdeal.Gen Cert.KernelIdeal.Run

set_option maxHeartbeats 2000000

variable (m : (ℓ : Loc nD τ sig) → Buf (Elt Ideal) ℓ) (c : Dev nD)

/-- The samples' window moves one block of columns a point; the other three stay. -/
theorem index_facts : ∀ t : Fin grid0.N, win0_0.index t = ![0, t.val] ∧ win0_1.index t = ![0, 0]
    ∧ win0_2.index t = ![0, 0] ∧ win0_3.index t = ![0, 0] := by decide +kernel

section
variable {x : Samples} (hx : m ((c.tc : Thread nD τ).loc main_arg0) = x)
include hx

/-- The transposed samples. -/
theorem columns_apply (r : Fin 2) (n : Fin 1000000) :
    (V m c main_v1 : S2x1000000.Idx → EReal) (ix2 r n) = x (ix2 n ⟨r.val, by omega⟩) := by
  unfold V
  after_results_simp
  rw [hx]
  pointwise

/-- Column `k` of the block of samples at point `t` is sample `t * 32768 + k`, if there is one. -/
theorem samples_apply (t : Fin grid0.N) (r : Fin 2) (k : Fin 32768) (hk : t.val * 32768 + k.val < 1000000) :
    samples m c t (ix2 r k) = x (ix2 ⟨t.val * 32768 + k.val, hk⟩ ⟨r.val, by omega⟩) := by
  have hm : win0_0.moved (grid0.coords t) (ix2 r k) = true := (moved_iff_sample t _).mpr hk
  unfold samples Pipeline.Window.fill
  rw [dif_pos hm, ← columns_apply m c hx]
  blk_ext [iblk, index_facts t]
end

section
variable {ex : Edges} (hex : m ((c.tc : Thread nD τ).loc main_arg1) = ex)
include hex

/-- The scale of the first axis. -/
theorem scale0_apply : (V m c main_v36 : S2x1.Idx → EReal) (ix2 0 0) = scale ex := by
  unfold V
  after_results_simp
  pointwise
  after_results_simp
  rw [hex]
  pointwise
  rfl

/-- The scaled centers of the first axis. -/
theorem centers0_apply (j : Fin 32) : (V m c main_v39 : S32x1.Idx → EReal) (ix2 j 0) = center ex j * scale ex := by
  unfold V
  after_results_simp
  rw [hex]
  pointwise
  rfl
end

section
variable {ey : Edges} (hey : m ((c.tc : Thread nD τ).loc main_arg2) = ey)
include hey

/-- The scale of the second axis. -/
theorem scale1_apply : (V m c main_v36 : S2x1.Idx → EReal) (ix2 1 0) = scale ey := by
  unfold V
  after_results_simp
  pointwise
  after_results_simp
  rw [hey]
  pointwise
  rfl

/-- The scaled centers of the second axis. -/
theorem centers1_apply (j : Fin 32) : (V m c main_v42 : S32x1.Idx → EReal) (ix2 j 0) = center ey j * scale ey := by
  unfold V
  after_results_simp
  rw [hey]
  pointwise
  rfl
end

/-- The scales and the scaled centers come to the body whole at every point. -/
theorem iblk1 (t : Fin grid0.N) : (iblk m c 1 t : S2x1.Idx → EReal) = V m c main_v36 := by
  funext y
  blk_ext [iblk, index_facts t]
/-- The same of the first axis' centers. -/
theorem iblk2 (t : Fin grid0.N) : (iblk m c 2 t : S32x1.Idx → EReal) = V m c main_v39 := by
  funext y
  blk_ext [iblk, index_facts t]
/-- The same of the second axis' centers. -/
theorem iblk3 (t : Fin grid0.N) : (iblk m c 3 t : S32x1.Idx → EReal) = V m c main_v42 := by
  funext y
  blk_ext [iblk, index_facts t]

end Cert.Hist

end
-- ==== Proof.KernelIdeal.Block.lean ====
module

public import proofs.«01_k».proof.Proof.KernelIdeal.Entry

/-!
What one grid point adds to the accumulator: the sum, over the samples of its block, of the products of the two axes'
weights. A column past the last sample holds the named constant, which stands for infinity, and adds zero.
-/

@[expose] public section

noncomputable section

namespace Cert.Hist

open Idealize.ShloMosaic Idealize.ShloMosaic.TcCoe Idealize.SL.Sem
open Cert.KernelIdeal Cert.KernelIdeal.Gen Cert.KernelIdeal.Run

set_option maxHeartbeats 2000000

/-- The named constant is infinity. -/
theorem far_eq : (Named.named (F := Ideal) (φ := .f32) κ "far" 0x4E6E6B28#32 : EReal) = ⊤ := rfl

/-- The contribution of the sample `n` to the bin `(i, j)`; zero past the last sample. -/
def term (x : Samples) (ex ey : Edges) (i j : Fin 32) (n : ℕ) : EReal :=
  if h : n < 1000000 then
    gauss (x (ix2 ⟨n, h⟩ 0)) (center ex i) (width ex) * gauss (x (ix2 ⟨n, h⟩ 1)) (center ey j) (width ey)
  else 0

/-- What a point adds to the accumulator, with the body's blocks as they are. -/
theorem added_apply (i : grid0.Coords) (X : Vec Ideal S2x32768 .f32) (q : Vec Ideal S2x1 .f32)
    (cx cy : Vec Ideal S32x1 .f32) (a : Vec Ideal S32x32 .f32) (r s : Fin 32) :
    (added i X q cx cy a : S32x32.Idx → EReal) (ix2 r s) = a (ix2 r s) + ∑ k : Fin 32768,
      Ideal.exp2 ((Scalar.select (k0_pay4 i (ix2 0 k)) (X (ix2 0 k)) (⊤ : EReal) * q (ix2 0 0) - cx (ix2 r 0))
          * (0 - (Scalar.select (k0_pay4 i (ix2 0 k)) (X (ix2 0 k)) (⊤ : EReal) * q (ix2 0 0) - cx (ix2 r 0))))
        * Ideal.exp2 ((Scalar.select (k0_pay4 i (ix2 0 k)) (X (ix2 1 k)) (⊤ : EReal) * q (ix2 1 0) - cy (ix2 s 0))
          * (0 - (Scalar.select (k0_pay4 i (ix2 0 k)) (X (ix2 1 k)) (⊤ : EReal) * q (ix2 1 0) - cy (ix2 s 0)))) := by
  unfold added
  pointwise [k0_pay1, k0_pay5, k0_pay6]
  rfl

variable (m : (ℓ : Loc nD τ sig) → Buf (Elt Ideal) ℓ) (c : Dev nD) {x : Samples} {ex ey : Edges}
  (hx : m ((c.tc : Thread nD τ).loc main_arg0) = x) (hex : m ((c.tc : Thread nD τ).loc main_arg1) = ex)
  (hey : m ((c.tc : Thread nD τ).loc main_arg2) = ey)
  (hw : Widths ex ey)
include hx hex hey hw

/-- **One point.** The accumulator gains the contributions of the 32768 samples of the block. -/
theorem point_apply (t : Fin grid0.N) (a : Vec Ideal S32x32 .f32) (i j : Fin 32) :
    (added (grid0.coords t) (samples m c t) (iblk m c 1 t) (iblk m c 2 t) (iblk m c 3 t) a : S32x32.Idx → EReal) (ix2 i j)
      = a (ix2 i j) + ∑ k : Fin 32768, term x ex ey i j (t.val * 32768 + k.val) := by
  rw [added_apply]
  refine congrArg (a (ix2 i j) + ·) (Finset.sum_congr rfl fun k _ => ?_)
  rw [iblk1, iblk2, iblk3, scale0_apply m c hex, scale1_apply m c hey, centers0_apply m c hex, centers1_apply m c hey]
  unfold term
  by_cases hk : t.val * 32768 + k.val < 1000000
  · have hm : k0_pay4 (grid0.coords t) (ix2 0 k) = 1#1 := (mask_iff t (ix2 0 k)).mpr hk
    rw [dif_pos hk, hm, samples_apply m c hx t 0 k hk, samples_apply m c hx t 1 k hk]
    have e0 := weight_eq (x (ix2 ⟨t.val * 32768 + k.val, hk⟩ 0)) (center ex i) hw.ne_x
    have e1 := weight_eq (x (ix2 ⟨t.val * 32768 + k.val, hk⟩ 1)) (center ey j) hw.ne_y
    rw [← e0, ← e1]
    rfl
  · have hm : k0_pay4 (grid0.coords t) (ix2 0 k) ≠ 1#1 := fun h => hk ((mask_iff t (ix2 0 k)).mp h)
    have hs : ∀ u v : EReal, Scalar.select (k0_pay4 (grid0.coords t) (ix2 0 k)) u v = v := fun u v => if_neg hm
    rw [dif_neg hk, hs, hs]
    rcases hw.real with ⟨d, hd, hd0⟩ | ⟨d, hd, hd0⟩
    · have e0 := weight_top (center ex i) hd0
      rw [← hd] at e0
      exact (congrArg (· * _) e0).trans (zero_mul _)
    · have e1 := weight_top (center ey j) hd0
      rw [← hd] at e1
      exact (congrArg (_ * ·) e1).trans (mul_zero _)

end Cert.Hist

end
-- ==== Proof.KernelIdeal.Sum.lean ====
module

public import proofs.«01_k».proof.Proof.KernelIdeal.Block

/-!
What the accumulator holds after the last point: for every bin the sum over all samples. The 31 points take 32768
columns each; the contributions past the last sample are zero.
-/

@[expose] public section

noncomputable section

namespace Cert.Hist

open Idealize.ShloMosaic Idealize.ShloMosaic.TcCoe Idealize.SL.Sem
open Cert.KernelIdeal Cert.KernelIdeal.Gen Cert.KernelIdeal.Run

/-- The cleared accumulator. -/
theorem cleared_apply (i j : Fin 32) : (k0_pay3 (F := Ideal) : S32x32.Idx → EReal) (ix2 i j) = 0 := by
  pointwise [k0_pay3]

/-- The contributions of the columns of all points are the sum over the samples. -/
theorem sum_term (x : Samples) (ex ey : Edges) (i j : Fin 32) :
    ∑ n ∈ Finset.range (31 * 32768), term x ex ey i j n = joint x ex ey i j := by
  rw [show 31 * 32768 = 1000000 + 15808 from rfl, Finset.sum_range_add,
    Finset.sum_eq_zero (s := Finset.range 15808) (fun k _ => dif_neg (by omega)), add_zero, Finset.sum_range]
  exact Finset.sum_congr rfl fun n _ => dif_pos n.isLt

/-- What the normalization leaves of an accumulator. -/
theorem normalized_apply (a : Vec Ideal S32x32 .f32) (i j : Fin 32) :
    (k0_pay2 a : S32x32.Idx → EReal) (ix2 i j) = normalized (fun i j => a (ix2 i j)) i j := by
  pointwise [k0_pay2]
  simp only [normalized]

variable (m : (ℓ : Loc nD τ sig) → Buf (Elt Ideal) ℓ) (c : Dev nD) {x : Samples} {ex ey : Edges}
  (hx : m ((c.tc : Thread nD τ).loc main_arg0) = x) (hex : m ((c.tc : Thread nD τ).loc main_arg1) = ex)
  (hey : m ((c.tc : Thread nD τ).loc main_arg2) = ey)
  (hw : Widths ex ey)
include hx hex hey hw

/-- After `n` points the accumulator holds the contributions of the first `n * 32768` columns. -/
theorem acc_apply (n : ℕ) (hn : n ≤ 31) (i j : Fin 32) :
    (acc m c n : S32x32.Idx → EReal) (ix2 i j) = ∑ k ∈ Finset.range (n * 32768), term x ex ey i j k := by
  induction n with
  | zero => rw [Nat.zero_mul, Finset.sum_range_zero]; exact cleared_apply i j
  | succ n ih =>
    have hlt : n < grid0.N := hn
    have hsame : (if clears (grid0.coords ⟨n, hlt⟩) then k0_pay3 else acc m c n) = acc m c n := by
      split
      · next h =>
        have hz : n = 0 := (clears_iff ⟨n, hlt⟩).mp h
        rw [hz]; rfl
      · rfl
    have hstep := acc_succ m c ⟨n, hlt⟩
    unfold accNext at hstep
    simp only [hsame] at hstep
    rw [hstep, point_apply m c hx hex hey hw ⟨n, hlt⟩ _ i j, ih (by omega), Nat.succ_mul,
      Finset.sum_range_add, Finset.sum_range (n := 32768)]

/-- **The kernel.** Entry `(i, j)` of its result is the normalized joint weight of the bin `(i, j)`. -/
theorem result_apply (i j : Fin 32) :
    (result m c : S32x32.Idx → EReal) (ix2 i j) = normalized (joint x ex ey) i j := by
  have h : (fun i j : Fin 32 => (acc m c 31 : S32x32.Idx → EReal) (ix2 i j)) = joint x ex ey := by
    funext i j
    rw [acc_apply m c hx hex hey hw 31 le_rfl i j, sum_term]
  unfold result
  rw [normalized_apply, h]

end Cert.Hist

end
-- ==== Proof.Reference.lean ====
module

public import proofs.«01_k».proof.Proof.Gen.ReferenceIdeal.Run
public import proofs.«01_k».proof.Proof.Hist

/-! What the reference returns: the table `joint`, divided by its total plus the small constant. -/

@[expose] public section

noncomputable section

namespace Cert.Hist

open Idealize.ShloMosaic Idealize.ShloMosaic.TcCoe Idealize.SL.Sem
open Cert.ReferenceIdeal Cert.ReferenceIdeal.Gen

set_option maxHeartbeats 2000000 in
/-- **The reference.** Entry `(i, j)` of its result is the normalized joint weight of the bin `(i, j)`. -/
theorem reference_apply (m : (ℓ : Loc nD τ sig) → Buf (Elt Ideal) ℓ) (c : Dev nD) (x : Samples) (ex ey : Edges)
    (hx : m ((c.tc : Thread nD τ).loc main_arg0) = x) (hex : m ((c.tc : Thread nD τ).loc main_arg1) = ex)
    (hey : m ((c.tc : Thread nD τ).loc main_arg2) = ey) (i j : Fin 32) :
    (Cert.ReferenceIdeal.Value.res_main_v53 m c : S32x32.Idx → EReal) (ix2 i j) = normalized (joint x ex ey) i j := by
  unfold Cert.ReferenceIdeal.Value.res_main_v53
  rw [hx, hex, hey]
  pointwise
  simp only [normalized, joint, gauss, center, width]

end Cert.Hist

end
-- ==== Proof.Widths.lean ====
module

public import proofs.«01_k».proof.Proof.Gen.Pre_widths_ok
public import proofs.«01_k».proof.Proof.Hist

/-! What the precondition says of the widths of the axes' first bins: neither is zero, not both are infinite. -/

@[expose] public section

noncomputable section

namespace Cert.Hist

open Idealize.ShloMosaic Idealize.SL.Sem
open Cert.Pre_widths_ok Cert.Pre_widths_ok.Gen

/-- The conjunction of two bits is one only if both are. -/
theorem and_one : ∀ {a b : BitVec 1}, IntOp.andi a b = 1#1 → a = 1#1 ∧ b = 1#1 := by decide

/-- The disjunction of two bits is one only if one of them is. -/
theorem or_one : ∀ {a b : BitVec 1}, IntOp.ori a b = 1#1 → a = 1#1 ∨ b = 1#1 := by decide

/-- A bit that a decision gives is one only if the decided statement holds. -/
theorem of_bit {p : Prop} [Decidable p] (h : BitVec.ofBool (decide p) = 1#1) : p := by
  by_contra hp
  rw [decide_eq_false hp] at h
  exact absurd h (by decide)

/-- An extended real of absolute value below infinity that is not zero is a real number other than zero. -/
theorem real_of_bounds {w : EReal} (hinf : max w (-w) < Ideal.ofBits .f32 0x7F800000#32) (hne : w ≠ 0) :
    ∃ d : ℝ, w = d ∧ d ≠ 0 := by
  rw [word_inf] at hinf
  induction w with
  | bot => simp at hinf
  | top => simp at hinf
  | coe r => exact ⟨r, rfl, fun h => hne (by rw [h]; rfl)⟩

/-- The precondition's function is one only if the widths are as the equation asks. -/
theorem widths_of_pre {x : Samples} {ex ey : Edges} (h : fn (F := Ideal) x ex ey = fun _ => 1#1) : Widths ex ey := by
  have h0 := congrFun h ix0
  unfold fn at h0
  pointwise at h0
  obtain ⟨h1, h2⟩ := and_one h0
  obtain ⟨hx, hy⟩ := and_one h1
  exact ⟨of_bit hx, of_bit hy, (or_one h2).imp (fun h => real_of_bounds (of_bit h) (of_bit hx))
    (fun h => real_of_bounds (of_bit h) (of_bit hy))⟩

end Cert.Hist

end
-- ==== Proof.Equation.lean ====
module

public import proofs.«01_k».proof.Proof.KernelIdeal.Sum
public import proofs.«01_k».proof.Proof.Reference
public import proofs.«01_k».proof.Proof.Widths

/-! Kernel and reference return one table: both are the normalized joint weight of every bin. -/

@[expose] public section

noncomputable section

namespace Cert.Hist

open Idealize.ShloMosaic Idealize.ShloMosaic.TcCoe Idealize.SL.Sem

/-- **The equation.** From memories that agree on the arguments, with first bins as the precondition asks, the
reference's result is the kernel's. -/
theorem reference_eq_result
    (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ)
    (c : Dev Cert.KernelIdeal.nD) (x : Samples) (ex ey : Edges)
    (hx : m ((c.tc : Thread Cert.KernelIdeal.nD Cert.KernelIdeal.τ).loc Cert.KernelIdeal.main_arg0) = x)
    (hex : m ((c.tc : Thread Cert.KernelIdeal.nD Cert.KernelIdeal.τ).loc Cert.KernelIdeal.main_arg1) = ex)
    (hey : m ((c.tc : Thread Cert.KernelIdeal.nD Cert.KernelIdeal.τ).loc Cert.KernelIdeal.main_arg2) = ey)
    (hx' : m' ((c.tc : Thread Cert.ReferenceIdeal.nD Cert.ReferenceIdeal.τ).loc Cert.ReferenceIdeal.main_arg0) = x)
    (hex' : m' ((c.tc : Thread Cert.ReferenceIdeal.nD Cert.ReferenceIdeal.τ).loc Cert.ReferenceIdeal.main_arg1) = ex)
    (hey' : m' ((c.tc : Thread Cert.ReferenceIdeal.nD Cert.ReferenceIdeal.τ).loc Cert.ReferenceIdeal.main_arg2) = ey)
    (hpre : Cert.Pre_widths_ok.fn (F := Ideal) x ex ey = fun _ => 1#1) :
    (Cert.ReferenceIdeal.Value.res_main_v53 m' c : Cert.ReferenceIdeal.S32x32.Idx → EReal)
      = Cert.KernelIdeal.Run.result m c := by
  funext p
  have hp : p = ix2 (p 0) (p 1) := by
    funext a; match a with | ⟨0, _⟩ => rfl | ⟨1, _⟩ => rfl
  rw [hp]
  exact (reference_apply m' c x ex ey hx' hex' hey' (p 0) (p 1)).trans
    (result_apply m c hx hex hey (widths_of_pre hpre) (p 0) (p 1)).symm

end Cert.Hist

end
-- ==== Proof.lean ====
/-
The claim about the joint-histogram kernel, assembled: the runs of the three programs, the named constant, and the
equation of kernel and reference over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Pre_widths_ok
public import proofs.«01_k».proof.Proof.Kernel.Frame
public import proofs.«01_k».proof.Proof.Equation
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, leaves its arguments unchanged and every semaphore at zero. -/
theorem quiescent_ReferenceIdeal : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The rewritten literal: the mask value is named, and its name stands for infinity. -/
theorem preserves_Kernel_KernelIdeal : Cert.preserves_Kernel_KernelIdeal :=
  IdealRules.named_const.statement Cert.KernelIdeal.κ "far" .f32 0x4E6E6B28#32 ⊤ rfl

/-- Kernel and reference end with equal results. -/
theorem algebraic_KernelIdeal_ReferenceIdeal : Cert.algebraic_KernelIdeal_ReferenceIdeal_pre_widths_ok := by
  intro m ρ m' ρ' hpre hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2⟩ := hagree c
  exact Cert.Hist.reference_eq_result m m' c _ _ _ rfl rfl rfl h0 h1 h2 (hpre c)

theorem claim : Cert.Claim := ⟨Cert.Kernel.Gen.facts, Cert.KernelIdeal.Gen.facts, Cert.ReferenceIdeal.Gen.facts, Cert.Pre_widths_ok.Gen.facts,
  fun m ρ _ => Cert.Kernel.Run.frame m ρ,
  fun m ρ _ => Cert.KernelIdeal.Run.frame m ρ,
  fun m ρ _ => Cert.KernelIdeal.Run.frame m ρ,
  quiescent_ReferenceIdeal,
  fun m ρ _ => quiescent_ReferenceIdeal m ρ trivial,
  preserves_Kernel_KernelIdeal,
  algebraic_KernelIdeal_ReferenceIdeal⟩

end Cert.Proof

end
